-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = Layout.block ⟨3, ![2, 128, 512]⟩ ⟨3, ![16, 128, 512]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 256]⟩ ⟨2, ![512, 2048]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![256, 512]⟩ ⟨2, ![2048, 512]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = Layout.block ⟨3, ![2, 128, 512]⟩ ⟨3, ![16, 128, 512]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v33) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x128x512 : Shape := ⟨3, ![2, 128, 512]⟩
abbrev S512x256 : Shape := ⟨2, ![512, 256]⟩
abbrev S16x128x32x64 : Shape := ⟨4, ![16, 128, 32, 64]⟩
abbrev S256x512 : Shape := ⟨2, ![256, 512]⟩
abbrev S_ : Shape := ⟨0, ![]⟩

class Facts : Prop where
  bcast_S_S2x128x512 : S_.BroadcastsInDim S2x128x512 (![] : Fin 0 → Fin S2x128x512.rank)
  bcast_S_S512x256 : S_.BroadcastsInDim S512x256 (![] : Fin 0 → Fin S512x256.rank)
  bcast_S_S16x128x32x64 : S_.BroadcastsInDim S16x128x32x64 (![] : Fin 0 → Fin S16x128x32x64.rank)

variable [Facts]

def fn {F : FTy → Type} [FloatOps F] (main_arg0 : FVec F S2x128x512 .f32) (main_arg1 : FVec F S512x256 .f32) (main_arg2 : FVec F S16x128x32x64 .f32) (main_arg3 : FVec F S16x128x32x64 .f32) (main_arg4 : FVec F S256x512 .f32) : IVec S2x128x512 1 × IVec S512x256 1 × IVec S16x128x32x64 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_v3 : FVec F S512x256 .f32 := Host.absf main_arg1
  let main_cst_0 : FVec F S_ .f32 := constant S_ .f32 0x7F800000#32
  let main_v4 : FVec F S512x256 .f32 := broadcastInDim S512x256 ![] bcast_S_S512x256 main_cst_0
  let main_v5 : IVec S512x256 1 := cmpf .olt main_v3 main_v4
  let main_v6 : FVec F S16x128x32x64 .f32 := Host.absf main_arg2
  let main_cst_1 : FVec F S_ .f32 := constant S_ .f32 0x7F800000#32
  let main_v7 : FVec F S16x128x32x64 .f32 := broadcastInDim S16x128x32x64 ![] bcast_S_S16x128x32x64 main_cst_1
  let main_v8 : IVec S16x128x32x64 1 := cmpf .olt main_v6 main_v7
  (main_v2, main_v5, main_v8)
-- ==== Pre_finite_scores_ReferenceIdeal.lean ====
abbrev S16x128x512 : Shape := ⟨3, ![16, 128, 512]⟩
abbrev S512x2048 : Shape := ⟨2, ![512, 2048]⟩
abbrev S16x128x32x64 : Shape := ⟨4, ![16, 128, 32, 64]⟩
abbrev S2048x512 : Shape := ⟨2, ![2048, 512]⟩
abbrev S_ : Shape := ⟨0, ![]⟩

class Facts : Prop where
  bcast_S_S16x128x512 : S_.BroadcastsInDim S16x128x512 (![] : Fin 0 → Fin S16x128x512.rank)
  bcast_S_S512x2048 : S_.BroadcastsInDim S512x2048 (![] : Fin 0 → Fin S512x2048.rank)
  bcast_S_S16x128x32x64 : S_.BroadcastsInDim S16x128x32x64 (![] : Fin 0 → Fin S16x128x32x64.rank)

variable [Facts]

def fn {F : FTy → Type} [FloatOps F] (main_arg0 : FVec F S16x128x512 .f32) (main_arg1 : FVec F S512x2048 .f32) (main_arg2 : FVec F S16x128x32x64 .f32) (main_arg3 : FVec F S16x128x32x64 .f32) (main_arg4 : FVec F S2048x512 .f32) : IVec S16x128x512 1 × IVec S512x2048 1 × IVec S16x128x32x64 1 :=
  let main_v0 : FVec F S16x128x512 .f32 := Host.absf main_arg0
  let main_cst : FVec F S_ .f32 := constant S_ .f32 0x7F800000#32
  let main_v1 : FVec F S16x128x512 .f32 := broadcastInDim S16x128x512 ![] bcast_S_S16x128x512 main_cst
  let main_v2 : IVec S16x128x512 1 := cmpf .olt main_v0 main_v1
  let main_v3 : FVec F S512x2048 .f32 := Host.absf main_arg1
  let main_cst_0 : FVec F S_ .f32 := constant S_ .f32 0x7F800000#32
  let main_v4 : FVec F S512x2048 .f32 := broadcastInDim S512x2048 ![] bcast_S_S512x2048 main_cst_0
  let main_v5 : IVec S512x2048 1 := cmpf .olt main_v3 main_v4
  let main_v6 : FVec F S16x128x32x64 .f32 := Host.absf main_arg2
  let main_cst_1 : FVec F S_ .f32 := constant S_ .f32 0x7F800000#32
  let main_v7 : FVec F S16x128x32x64 .f32 := broadcastInDim S16x128x32x64 ![] bcast_S_S16x128x32x64 main_cst_1
  let main_v8 : IVec S16x128x32x64 1 := cmpf .olt main_v6 main_v7
  (main_v2, main_v5, main_v8)
-- ==== Kernel.lean ====
abbrev S2x128x512 : Shape := ⟨3, ![2, 128, 512]⟩
abbrev S512x256 : Shape := ⟨2, ![512, 256]⟩
abbrev S16x128x32x64 : Shape := ⟨4, ![16, 128, 32, 64]⟩
abbrev S256x512 : Shape := ⟨2, ![256, 512]⟩
abbrev S_ : Shape := ⟨0, ![]⟩
abbrev S2x128x32x64 : Shape := ⟨4, ![2, 128, 32, 64]⟩
abbrev S32x2x64x128 : Shape := ⟨4, ![32, 2, 64, 128]⟩
abbrev S32x2x128x64 : Shape := ⟨4, ![32, 2, 128, 64]⟩
abbrev S8x512x256 : Shape := ⟨3, ![8, 512, 256]⟩
abbrev S8x256x512 : Shape := ⟨3, ![8, 256, 512]⟩
abbrev S8x2x128x256 : Shape := ⟨4, ![8, 2, 128, 256]⟩
abbrev S6 : Shape := ⟨1, ![6]⟩
abbrev S1 : Shape := ⟨1, ![1]⟩
abbrev S1x512x256 : Shape := ⟨3, ![1, 512, 256]⟩
abbrev S1x256x512 : Shape := ⟨3, ![1, 256, 512]⟩
abbrev S128x128 : Shape := ⟨2, ![128, 128]⟩
abbrev S1x128x512 : Shape := ⟨3, ![1, 128, 512]⟩
abbrev S128x512 : Shape := ⟨2, ![128, 512]⟩
abbrev S128x256 : Shape := ⟨2, ![128, 256]⟩
abbrev S128x64 : Shape := ⟨2, ![128, 64]⟩
abbrev S1x1x64x128 : Shape := ⟨4, ![1, 1, 64, 128]⟩
abbrev S64x128 : Shape := ⟨2, ![64, 128]⟩
abbrev S128 : Shape := ⟨1, ![128]⟩
abbrev S128x1 : Shape := ⟨2, ![128, 1]⟩
abbrev S1x1x128x64 : Shape := ⟨4, ![1, 1, 128, 64]⟩
abbrev S1x1x128x256 : Shape := ⟨4, ![1, 1, 128, 256]⟩
abbrev S1x176x256 : Shape := ⟨3, ![1, 176, 256]⟩
abbrev S176x256 : Shape := ⟨2, ![176, 256]⟩
abbrev S1x160x256 : Shape := ⟨3, ![1, 160, 256]⟩
abbrev S160x256 : Shape := ⟨2, ![160, 256]⟩
abbrev S1x88x512 : Shape := ⟨3, ![1, 88, 512]⟩
abbrev S88x512 : Shape := ⟨2, ![88, 512]⟩
abbrev S1x80x512 : Shape := ⟨3, ![1, 80, 512]⟩
abbrev S80x512 : Shape := ⟨2, ![80, 512]⟩

abbrev nBuf : Space → Nat
  | .hbm => 41
  | .vmem => 9
  | .smem => 0
  | _ => 0

abbrev bufTy : (tb : Table) → Fin (tcTables nBuf tb) → BufTy
  | .hbm, ⟨0, _⟩ => ⟨S2x128x512, .f32⟩
  | .hbm, ⟨1, _⟩ => ⟨S512x256, .f32⟩
  | .hbm, ⟨2, _⟩ => ⟨S16x128x32x64, .f32⟩
  | .hbm, ⟨3, _⟩ => ⟨S16x128x32x64, .f32⟩
  | .hbm, ⟨4, _⟩ => ⟨S256x512, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S2x128x32x64, .f32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S2x128x32x64, .f32⟩
  | .hbm, ⟨33, _⟩ => ⟨S32x2x64x128, .f32⟩
  | .hbm, ⟨34, _⟩ => ⟨S32x2x128x64, .f32⟩
  | .hbm, ⟨35, _⟩ => ⟨S_, .f32⟩
  | .hbm, ⟨36, _⟩ => ⟨S512x256, .f32⟩
  | .hbm, ⟨37, _⟩ => ⟨S512x256, .f32⟩
  | .hbm, ⟨38, _⟩ => ⟨S512x256, .bf16⟩
  | .hbm, ⟨39, _⟩ => ⟨S256x512, .bf16⟩
  | .hbm, ⟨40, _⟩ => ⟨S2x128x512, .f32⟩
  | .local _ .vmem, ⟨0, _⟩ => ⟨S2x128x512, .f32⟩
  | .local _ .vmem, ⟨1, _⟩ => ⟨S512x256, .bf16⟩
  | .local _ .vmem, ⟨2, _⟩ => ⟨S32x2x64x128, .f32⟩
  | .local _ .vmem, ⟨3, _⟩ => ⟨S32x2x128x64, .f32⟩
  | .local _ .vmem, ⟨4, _⟩ => ⟨S256x512, .bf16⟩
  | .local _ .vmem, ⟨5, _⟩ => ⟨S2x128x512, .f32⟩
  | .local _ .vmem, ⟨6, _⟩ => ⟨S8x512x256, .bf16⟩
  | .local _ .vmem, ⟨7, _⟩ => ⟨S8x256x512, .bf16⟩
  | .local _ .vmem, ⟨8, _⟩ => ⟨S8x2x128x256, .f32⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  (ofTc nBuf bufTy 1 42 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_c_5 : Ref sig .tc := ⟨.hbm, 19, rfl⟩
abbrev main_c_6 : Ref sig .tc := ⟨.hbm, 20, rfl⟩
abbrev main_v9 : Ref sig .tc := ⟨.hbm, 21, rfl⟩
abbrev main_c_7 : Ref sig .tc := ⟨.hbm, 22, rfl⟩
abbrev main_v10 : Ref sig .tc := ⟨.hbm, 23, rfl⟩
abbrev main_c_8 : Ref sig .tc := ⟨.hbm, 24, rfl⟩
abbrev main_v11 : Ref sig .tc := ⟨.hbm, 25, rfl⟩
abbrev main_c_9 : Ref sig .tc := ⟨.hbm, 26, rfl⟩
abbrev main_v12 : Ref sig .tc := ⟨.hbm, 27, rfl⟩
abbrev main_v13 : Ref sig .tc := ⟨.hbm, 28, rfl⟩
abbrev main_c_10 : Ref sig .tc := ⟨.hbm, 29, rfl⟩
abbrev main_c_11 : Ref sig .tc := ⟨.hbm, 30, rfl⟩
abbrev main_c_12 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_cst : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_2 : BitVec 32 := 1#32
  let v7 : BitVec 32 := Scalar.muli v3 c1_i32_2
  let v8 : BitVec 32 := Scalar.addi c0_i32 v7
  v8.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_4 : BitVec 32 := 1#32
  let v9 : BitVec 32 := Scalar.muli v4 c1_i32_4
  let v10 : BitVec 32 := Scalar.addi c0_i32_5 v9
  v10.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_7 : BitVec 32 := 1#32
  let v11 : BitVec 32 := Scalar.muli v5 c1_i32_7
  let v12 : BitVec 32 := Scalar.addi c0_i32_8 v11
  v12.toNat
def k0_dev4 (d0 : Dev nD) : Nat :=
  let c0_i32_14 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_13 : BitVec 32 := 1#32
  let v13 : BitVec 32 := Scalar.muli v3 c1_i32_13
  let v14 : BitVec 32 := Scalar.addi c0_i32_14 v13
  v14.toNat
def k0_dev5 (d0 : Dev nD) : Nat :=
  let c0_i32_21 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_20 : BitVec 32 := 1#32
  let v21 : BitVec 32 := Scalar.muli v3 c1_i32_20
  let v22 : BitVec 32 := Scalar.addi c0_i32_21 v21
  v22.toNat
def k0_dev6 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_26 : BitVec 32 := 1#32
  let v29 : BitVec 32 := Scalar.muli v4 c1_i32_26
  let v30 : BitVec 32 := Scalar.addi c0_i32_27 v29
  v30.toNat
def k0_dev7 (d0 : Dev nD) : Nat :=
  let c0_i32_34 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_33 : BitVec 32 := 1#32
  let v37 : BitVec 32 := Scalar.muli v4 c1_i32_33
  let v38 : BitVec 32 := Scalar.addi c0_i32_34 v37
  v38.toNat
def k0_dev8 (d0 : Dev nD) : Nat :=
  let c0_i32_41 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_40 : BitVec 32 := 1#32
  let v45 : BitVec 32 := Scalar.muli v5 c1_i32_40
  let v46 : BitVec 32 := Scalar.addi c0_i32_41 v45
  v46.toNat
def k0_dev9 (d0 : Dev nD) : Nat :=
  let c0_i32_47 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_46 : BitVec 32 := 1#32
  let v53 : BitVec 32 := Scalar.muli v5 c1_i32_46
  let v54 : BitVec 32 := Scalar.addi c0_i32_47 v53
  v54.toNat
def k0_off1 (d0 : Dev nD) (c0_i32_66 : BitVec 32) (c0_i32_71 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v116 : BitVec 32 := Scalar.xori v2 c0_i32_66
  let c4_i32_70 : BitVec 32 := 4#32
  let v122 : BitVec 32 := Scalar.muli v116 c4_i32_70
  let v123 : BitVec 32 := Scalar.addi v122 c0_i32_71
  let v125 : Index := Scalar.indexCast v123
  let c0_72 : Index := 0#32
  let c0_73 : Index := 0#32
  let c0_74 : Index := 0#32
  ![v125.toNat, 0, 0, 0]
def k0_off2 (d0 : Dev nD) (c0_i32_66 : BitVec 32) (c0_i32_71 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v116 : BitVec 32 := Scalar.xori v2 c0_i32_66
  let c4_i32_70 : BitVec 32 := 4#32
  let v122 : BitVec 32 := Scalar.muli v116 c4_i32_70
  let v123 : BitVec 32 := Scalar.addi v122 c0_i32_71
  let v136 : Index := Scalar.indexCast v123
  let c0_78 : Index := 0#32
  let c0_79 : Index := 0#32
  let c0_80 : Index := 0#32
  ![v136.toNat, 0, 0, 0]
def k0_off3 (d0 : Dev nD) (c0_i32_66 : BitVec 32) (c0_i32_126 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v116 : BitVec 32 := Scalar.xori v2 c0_i32_66
  let c4_i32_125 : BitVec 32 := 4#32
  let v202 : BitVec 32 := Scalar.muli v116 c4_i32_125
  let v203 : BitVec 32 := Scalar.addi v202 c0_i32_126
  let v205 : Index := Scalar.indexCast v203
  let c1_127 : Index := 1#32
  let c0_128 : Index := 0#32
  let c0_129 : Index := 0#32
  ![v205.toNat, 1, 0, 0]
def k0_off4 (d0 : Dev nD) (c0_i32_66 : BitVec 32) (c0_i32_126 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v116 : BitVec 32 := Scalar.xori v2 c0_i32_66
  let c4_i32_125 : BitVec 32 := 4#32
  let v202 : BitVec 32 := Scalar.muli v116 c4_i32_125
  let v203 : BitVec 32 := Scalar.addi v202 c0_i32_126
  let v216 : Index := Scalar.indexCast v203
  let c1_133 : Index := 1#32
  let c0_134 : Index := 0#32
  let c0_135 : Index := 0#32
  ![v216.toNat, 1, 0, 0]
def k0_dev10 (d0 : Dev nD) : Nat :=
  let c0_i32_189 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_188 : BitVec 32 := 1#32
  let v285 : BitVec 32 := Scalar.muli v3 c1_i32_188
  let v286 : BitVec 32 := Scalar.addi c0_i32_189 v285
  v286.toNat
def k0_dev11 (d0 : Dev nD) : Nat :=
  let c0_i32_206 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_205 : BitVec 32 := 1#32
  let v301 : BitVec 32 := Scalar.muli v4 c1_i32_205
  let v302 : BitVec 32 := Scalar.addi c0_i32_206 v301
  v302.toNat
def k0_dev12 (d0 : Dev nD) : Nat :=
  let c0_i32_222 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_221 : BitVec 32 := 1#32
  let v317 : BitVec 32 := Scalar.muli v5 c1_i32_221
  let v318 : BitVec 32 := Scalar.addi c0_i32_222 v317
  v318.toNat
def k0_dev13 (d0 : Dev nD) : Nat :=
  let c0_i32_585 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_584 : BitVec 32 := 1#32
  let v819 : BitVec 32 := Scalar.muli v3 c1_i32_584
  let v820 : BitVec 32 := Scalar.addi c0_i32_585 v819
  v820.toNat
def k0_dev14 (d0 : Dev nD) : Nat :=
  let c0_i32_602 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_601 : BitVec 32 := 1#32
  let v835 : BitVec 32 := Scalar.muli v4 c1_i32_601
  let v836 : BitVec 32 := Scalar.addi c0_i32_602 v835
  v836.toNat
def k0_dev15 (d0 : Dev nD) : Nat :=
  let c0_i32_619 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_618 : BitVec 32 := 1#32
  let v851 : BitVec 32 := Scalar.muli v5 c1_i32_618
  let v852 : BitVec 32 := Scalar.addi c0_i32_619 v851
  v852.toNat
def k0_dev16 (d0 : Dev nD) : Nat :=
  let c0_i32_710 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_709 : BitVec 32 := 1#32
  let v930 : BitVec 32 := Scalar.muli v3 c1_i32_709
  let v931 : BitVec 32 := Scalar.addi c0_i32_710 v930
  v931.toNat
def k0_dev17 (d0 : Dev nD) : Nat :=
  let c0_i32_727 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_726 : BitVec 32 := 1#32
  let v946 : BitVec 32 := Scalar.muli v4 c1_i32_726
  let v947 : BitVec 32 := Scalar.addi c0_i32_727 v946
  v947.toNat
def k0_dev18 (d0 : Dev nD) : Nat :=
  let c0_i32_743 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_742 : BitVec 32 := 1#32
  let v962 : BitVec 32 := Scalar.muli v5 c1_i32_742
  let v963 : BitVec 32 := Scalar.addi c0_i32_743 v962
  v963.toNat
def k0_dev19 (d0 : Dev nD) : Nat :=
  let c0_i32_1104 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.xori v2 c1_i32_0
  let c1_i32_1103 : BitVec 32 := 1#32
  let v1464 : BitVec 32 := Scalar.muli v3 c1_i32_1103
  let v1465 : BitVec 32 := Scalar.addi c0_i32_1104 v1464
  v1465.toNat
def k0_dev20 (d0 : Dev nD) : Nat :=
  let c0_i32_1121 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v4 : BitVec 32 := Scalar.xori v2 c3_i32
  let c1_i32_1120 : BitVec 32 := 1#32
  let v1480 : BitVec 32 := Scalar.muli v4 c1_i32_1120
  let v1481 : BitVec 32 := Scalar.addi c0_i32_1121 v1480
  v1481.toNat
def k0_dev21 (d0 : Dev nD) : Nat :=
  let c0_i32_1137 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v5 : BitVec 32 := Scalar.xori v2 c4_i32
  let c1_i32_1136 : BitVec 32 := 1#32
  let v1496 : BitVec 32 := Scalar.muli v5 c1_i32_1136
  let v1497 : BitVec 32 := Scalar.addi c0_i32_1137 v1496
  v1497.toNat
abbrev stage0_0 : Fin 1 → Memref sig .tc .vmem S2x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x2x64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x2x128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S16x128x512 : Shape := ⟨3, ![16, 128, 512]⟩
abbrev S512x2048 : Shape := ⟨2, ![512, 2048]⟩
abbrev S16x128x32x64 : Shape := ⟨4, ![16, 128, 32, 64]⟩
abbrev S2048x512 : Shape := ⟨2, ![2048, 512]⟩
abbrev S16x128x2048 : Shape := ⟨3, ![16, 128, 2048]⟩
abbrev S128 : Shape := ⟨1, ![128]⟩
abbrev S_ : Shape := ⟨0, ![]⟩
abbrev S128x1 : Shape := ⟨2, ![128, 1]⟩
abbrev S1x128 : Shape := ⟨2, ![1, 128]⟩
abbrev S128x128 : Shape := ⟨2, ![128, 128]⟩
abbrev S16x32x128x128 : Shape := ⟨4, ![16, 32, 128, 128]⟩
abbrev S1x1x128x128 : Shape := ⟨4, ![1, 1, 128, 128]⟩
abbrev S16x32x128 : Shape := ⟨3, ![16, 32, 128]⟩
abbrev S16x32x128x1 : Shape := ⟨4, ![16, 32, 128, 1]⟩
abbrev S1x1x128x1 : Shape := ⟨4, ![1, 1, 128, 1]⟩
abbrev S16x32x64x128 : Shape := ⟨4, ![16, 32, 64, 128]⟩

abbrev nBuf : Space → Nat
  | .hbm => 89
  | .vmem => 0
  | .smem => 0
  | _ => 0

abbrev bufTy : (tb : Table) → Fin (tcTables nBuf tb) → BufTy
  | .hbm, ⟨0, _⟩ => ⟨S16x128x512, .f32⟩
  | .hbm, ⟨1, _⟩ => ⟨S512x2048, .f32⟩
  | .hbm, ⟨2, _⟩ => ⟨S16x128x32x64, .f32⟩
  | .hbm, ⟨3, _⟩ => ⟨S16x128x32x64, .f32⟩
  | .hbm, ⟨4, _⟩ => ⟨S2048x512, .f32⟩
  | .hbm, ⟨5, _⟩ => ⟨S16x128x2048, .f32⟩
  | .hbm, ⟨6, _⟩ => ⟨S16x128x32x64, .f32⟩
  | .hbm, ⟨7, _⟩ => ⟨S128, .i32⟩
  | .hbm, ⟨8, _⟩ => ⟨S_, .i32⟩
  | .hbm, ⟨9, _⟩ => ⟨S_, .i32⟩
  | .hbm, ⟨10, _⟩ => ⟨S128, .i32⟩
  | .hbm, ⟨11, _⟩ => ⟨S128, .i32⟩
  | .hbm, ⟨12, _⟩ => ⟨S128, .i32⟩
  | .hbm, ⟨13, _⟩ => ⟨S_, .i32⟩
  | .hbm, ⟨14, _⟩ => ⟨S128, .i32⟩
  | .hbm, ⟨15, _⟩ => ⟨S128, .i1⟩
  | .hbm, ⟨16, _⟩ => ⟨S128, .i32⟩
  | .hbm, ⟨17, _⟩ => ⟨S128, .i32⟩
  | .hbm, ⟨18, _⟩ => ⟨S_, .i32⟩
  | .hbm, ⟨19, _⟩ => ⟨S128, .i32⟩
  | .hbm, ⟨20, _⟩ => ⟨S128, .i1⟩
  | .hbm, ⟨21, _⟩ => ⟨S128, .i1⟩
  | .hbm, ⟨22, _⟩ => ⟨S_, .i32⟩
  | .hbm, ⟨23, _⟩ => ⟨S128, .i32⟩
  | .hbm, ⟨24, _⟩ => ⟨S128, .i32⟩
  | .hbm, ⟨25, _⟩ => ⟨S128, .i32⟩
  | .hbm, ⟨26, _⟩ => ⟨S128x1, .i32⟩
  | .hbm, ⟨27, _⟩ => ⟨S128, .i32⟩
  | .hbm, ⟨28, _⟩ => ⟨S_, .i32⟩
  | .hbm, ⟨29, _⟩ => ⟨S_, .i32⟩
  | .hbm, ⟨30, _⟩ => ⟨S128, .i32⟩
  | .hbm, ⟨31, _⟩ => ⟨S128, .i32⟩
  | .hbm, ⟨32, _⟩ => ⟨S128, .i32⟩
  | .hbm, ⟨33, _⟩ => ⟨S_, .i32⟩
  | .hbm, ⟨34, _⟩ => ⟨S128, .i32⟩
  | .hbm, ⟨35, _⟩ => ⟨S128, .i1⟩
  | .hbm, ⟨36, _⟩ => ⟨S128, .i32⟩
  | .hbm, ⟨37, _⟩ => ⟨S128, .i32⟩
  | .hbm, ⟨38, _⟩ => ⟨S_, .i32⟩
  | .hbm, ⟨39, _⟩ => ⟨S128, .i32⟩
  | .hbm, ⟨40, _⟩ => ⟨S128, .i1⟩
  | .hbm, ⟨41, _⟩ => ⟨S128, .i1⟩
  | .hbm, ⟨42, _⟩ => ⟨S_, .i32⟩
  | .hbm, ⟨43, _⟩ => ⟨S128, .i32⟩
  | .hbm, ⟨44, _⟩ => ⟨S128, .i32⟩
  | .hbm, ⟨45, _⟩ => ⟨S128, .i32⟩
  | .hbm, ⟨46, _⟩ => ⟨S1x128, .i32⟩
  | .hbm, ⟨47, _⟩ => ⟨S128x128, .i32⟩
  | .hbm, ⟨48, _⟩ => ⟨S128x128, .i32⟩
  | .hbm, ⟨49, _⟩ => ⟨S128x128, .i1⟩
  | .hbm, ⟨50, _⟩ => ⟨S16x32x128x128, .f32⟩
  | .hbm, ⟨51, _⟩ => ⟨S_, .f32⟩
  | .hbm, ⟨52, _⟩ => ⟨S16x32x128x128, .f32⟩
  | .hbm, ⟨53, _⟩ => ⟨S16x32x128x128, .f32⟩
  | .hbm, ⟨54, _⟩ => ⟨S1x1x128x128, .i1⟩
  | .hbm, ⟨55, _⟩ => ⟨S_, .f32⟩
  | .hbm, ⟨56, _⟩ => ⟨S_, .f32⟩
  | .hbm, ⟨57, _⟩ => ⟨S16x32x128x128, .i1⟩
  | .hbm, ⟨58, _⟩ => ⟨S16x32x128x128, .f32⟩
  | .hbm, ⟨59, _⟩ => ⟨S16x32x128x128, .f32⟩
  | .hbm, ⟨60, _⟩ => ⟨S_, .f32⟩
  | .hbm, ⟨61, _⟩ => ⟨S16x32x128, .f32⟩
  | .hbm, ⟨62, _⟩ => ⟨S16x32x128x1, .f32⟩
  | .hbm, ⟨63, _⟩ => ⟨S16x32x128x128, .f32⟩
  | .hbm, ⟨64, _⟩ => ⟨S16x32x128x128, .f32⟩
  | .hbm, ⟨65, _⟩ => ⟨S16x32x128x128, .f32⟩
  | .hbm, ⟨66, _⟩ => ⟨S_, .i1⟩
  | .hbm, ⟨67, _⟩ => ⟨S128, .i1⟩
  | .hbm, ⟨68, _⟩ => ⟨S1x1x128x1, .i1⟩
  | .hbm, ⟨69, _⟩ => ⟨S_, .f32⟩
  | .hbm, ⟨70, _⟩ => ⟨S16x32x128, .f32⟩
  | .hbm, ⟨71, _⟩ => ⟨S16x32x128x1, .f32⟩
  | .hbm, ⟨72, _⟩ => ⟨S_, .f32⟩
  | .hbm, ⟨73, _⟩ => ⟨S_, .f32⟩
  | .hbm, ⟨74, _⟩ => ⟨S16x32x128x1, .i1⟩
  | .hbm, ⟨75, _⟩ => ⟨S16x32x128x1, .f32⟩
  | .hbm, ⟨76, _⟩ => ⟨S16x32x128x1, .f32⟩
  | .hbm, ⟨77, _⟩ => ⟨S16x32x128x128, .f32⟩
  | .hbm, ⟨78, _⟩ => ⟨S16x32x128x128, .f32⟩
  | .hbm, ⟨79, _⟩ => ⟨S1x1x128x1, .i1⟩
  | .hbm, ⟨80, _⟩ => ⟨S_, .f32⟩
  | .hbm, ⟨81, _⟩ => ⟨S_, .f32⟩
  | .hbm, ⟨82, _⟩ => ⟨S16x32x128x128, .i1⟩
  | .hbm, ⟨83, _⟩ => ⟨S16x32x128x128, .f32⟩
  | .hbm, ⟨84, _⟩ => ⟨S16x32x128x128, .f32⟩
  | .hbm, ⟨85, _⟩ => ⟨S16x32x64x128, .f32⟩
  | .hbm, ⟨86, _⟩ => ⟨S16x128x32x64, .f32⟩
  | .hbm, ⟨87, _⟩ => ⟨S16x128x2048, .f32⟩
  | .hbm, ⟨88, _⟩ => ⟨S16x128x512, .f32⟩
  | _, _ => ⟨S16x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_cst : Ref sig .tc := ⟨.hbm, 51, rfl⟩
abbrev main_v12 : Ref sig .tc := ⟨.hbm, 52, rfl⟩
abbrev main_v13 : Ref sig .tc := ⟨.hbm, 53, rfl⟩
abbrev main_v14 : Ref sig .tc := ⟨.hbm, 54, rfl⟩
abbrev main_cst_1 : Ref sig .tc := ⟨.hbm, 55, rfl⟩
abbrev main_call2_v0 : Ref sig .tc := ⟨.hbm, 56, rfl⟩
abbrev main_call2_v1 : Ref sig .tc := ⟨.hbm, 57, rfl⟩
abbrev main_call2_v2 : Ref sig .tc := ⟨.hbm, 58, rfl⟩
abbrev main_v15 : Ref sig .tc := ⟨.hbm, 59, rfl⟩
abbrev main_cst_2 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_v20 : Ref sig .tc := ⟨.hbm, 65, rfl⟩
abbrev main_c_3 : Ref sig .tc := ⟨.hbm, 66, rfl⟩
abbrev main_v21 : Ref sig .tc := ⟨.hbm, 67, rfl⟩
abbrev main_v22 : Ref sig .tc := ⟨.hbm, 68, rfl⟩
abbrev main_cst_4 : Ref sig .tc := ⟨.hbm, 69, rfl⟩
abbrev main_v23 : Ref sig .tc := ⟨.hbm, 70, rfl⟩
abbrev main_v24 : Ref sig .tc := ⟨.hbm, 71, rfl⟩
abbrev main_cst_5 : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_cst_6 : Ref sig .tc := ⟨.hbm, 80, rfl⟩
abbrev main_call4_v0 : Ref sig .tc := ⟨.hbm, 81, rfl⟩
abbrev main_call4_v1 : Ref sig .tc := ⟨.hbm, 82, rfl⟩
abbrev main_call4_v2 : Ref sig .tc := ⟨.hbm, 83, rfl⟩
abbrev main_v29 : Ref sig .tc := ⟨.hbm, 84, rfl⟩
abbrev main_v30 : Ref sig .tc := ⟨.hbm, 85, rfl⟩
abbrev main_v31 : Ref sig .tc := ⟨.hbm, 86, rfl⟩
abbrev main_v32 : Ref sig .tc := ⟨.hbm, 87, rfl⟩
abbrev main_v33 : Ref sig .tc := ⟨.hbm, 88, rfl⟩

abbrev nD : Nat := 1
abbrev τ : Topo := Topo.v7x

variable {F : FTy → Type} [FloatOps F]
-- ==== Proof.Cells.lean ====
/-
  The kernel's cells, windows and contents, and the schedule of its rounds.

  Each device c talks to its three neighbours c ^ 1, c ^ 3, c ^ 4 (directions 0, 1, 2). Every cell has ONE round.

  * the barrier cell: three duties of one unit, duty i paid by the neighbour in direction i at its start; it hands over the
    windows of THAT neighbour's two weight scratches which this device's copies in direction i fill, and that the six receive cells
    of the direction have reached their round;
  * a send cell (phase A, B or C; direction i; weight t): one duty, paid by the departure of the device's own copy; it gives
    back the share of the source that was lent;
  * a receive cell: one duty, paid by the arrival of the neighbour's copy; it hands over the window filled, at what it holds.

  The contents: slot s of the scratch of device c holds the weights of device c ^ s, whatever road they came by.
-/
module

public import proofs.«01_k».proof.Proof.Gen.KernelIdeal.Launch
public import proofs.«01_k».proof.Proof.Gen.KernelIdeal.Regions
public import proofs.«01_k».proof.Proof.Gen.KernelIdeal.Points
public import proofs.«01_k».proof.Proof.Gen.KernelIdeal.Skeleton
public import Idealize.ShloMosaic.Lib.Pipeline.RegionTalk
public import Idealize.ShloMosaic.Lib.Pipeline.TalkSites
public import Idealize.ShloMosaic.Lib.Pipeline.Regions
public import Idealize.ShloMosaic.Lib.Pipeline.Kit
public import Idealize.ShloMosaic.Lib.Rounds
public import Idealize.ShloMosaic.Lib.Tactic

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The neighbours -/

/-- The device whose number differs from that of `c` by the bits of `s`. -/
def xr (c : Dev nD) (s : ℕ) : Dev nD := ⟨(c.val ^^^ s) % 8, Nat.mod_lt _ (by decide)⟩

/-- The first neighbour of the first neighbour is the device itself. -/
theorem xr_xr1 : ∀ c : Dev nD, xr (xr c 1) 1 = c := by decide
/-- The same of the second neighbour. -/
theorem xr_xr3 : ∀ c : Dev nD, xr (xr c 3) 3 = c := by decide
/-- The same of the third neighbour. -/
theorem xr_xr4 : ∀ c : Dev nD, xr (xr c 4) 4 = c := by decide

/-! ## The windows -/

/-- The scratch buffer of query weights. -/
abbrev refQ : Ref sig .tc := cc0_scratch0
/-- The scratch buffer of output weights. -/
abbrev refO : Ref sig .tc := cc0_scratch1

/-- Rows `o … o + n - 1` of slot `s` of the scratch that gathers the query weights. -/
abbrev winQ (s o n : ℕ) (h : ∀ a, (![s, o, 0] : Fin 3 → ℕ) a + (![1, n, 256] : Fin 3 → ℕ) a ≤ S8x512x256.size a := by decide)
    (hq : (⟨3, ![1, n, 256]⟩ : Shape).Squeezes ⟨2, ![n, 256]⟩ := by decide) : Memref sig .tc .vmem ⟨2, ![n, 256]⟩ .bf16 :=
  ((Memref.whole refQ).slice (Rect.unit (s := S8x512x256) ![s, o, 0] ![1, n, 256] h) (fun _ => rfl)).squeeze ⟨2, ![n, 256]⟩ hq
/-- Rows `o … o + n - 1` of slot `s` of the scratch that gathers the output weights. -/
abbrev winO (s o n : ℕ) (h : ∀ a, (![s, o, 0] : Fin 3 → ℕ) a + (![1, n, 512] : Fin 3 → ℕ) a ≤ S8x256x512.size a := by decide)
    (hq : (⟨3, ![1, n, 512]⟩ : Shape).Squeezes ⟨2, ![n, 512]⟩ := by decide) : Memref sig .tc .vmem ⟨2, ![n, 512]⟩ .bf16 :=
  ((Memref.whole refO).slice (Rect.unit (s := S8x256x512) ![s, o, 0] ![1, n, 512] h) (fun _ => rfl)).squeeze ⟨2, ![n, 512]⟩ hq

/-- The staging buffers of the two weight blocks. -/
abbrev refA1 : Ref sig .tc := cc0_stg1_0
abbrev refA4 : Ref sig .tc := cc0_stg4_0

/-! ## The cells -/

/-- The barrier semaphore. -/
abbrev barS : Sem sig := ⟨0, by decide⟩
/-- A device's barrier semaphore. -/
abbrev barC (c : Dev nD) : GSem nD τ sig := ((c : Thread nD τ), .reg barS)
/-- The DMA semaphore of number `k`: 6 … 11 send and 12 … 17 receive in phase A, 18 … 29 in phase B, 30 … 41 in phase C. -/
abbrev cel (c : Dev nD) (k : ℕ) : GSem nD τ sig := ((c : Thread nD τ), .dma ⟨k % 42, Nat.mod_lt _ (by decide)⟩)

/-! ## The ghost state -/

abbrev UR₀ : Type := UR sig nD τ
abbrev UD : Type := URounds (GSem nD τ sig) (Fin 3)
/-- The pipeline's copy beside the protocol's. -/
abbrev UU : Type := UR₀ × UD

local notation "𝕄" => MT nD τ sig ℕ (Elt F) ℕ UU ℕ

abbrev EP : Emb UR₀ (MT nD τ sig ℕ (Elt F) ℕ UU ℕ) := embL
abbrev ER : Emb UD (MT nD τ sig ℕ (Elt F) ℕ UU ℕ) := embR

/-! ## The contents -/

/-- The weights a device contributes: a block of columns of the query weights, a block of rows of the output weights. -/
abbrev BlkQ (F : FTy → Type) : Type := (⟨2, ![512, 256]⟩ : Shape).Idx → Elt F .bf16
/-- The contents of one block of output weights. -/
abbrev BlkO (F : FTy → Type) : Type := (⟨2, ![256, 512]⟩ : Shape).Idx → Elt F .bf16

/-- The scratch of query weights once all is gathered: slot `s` of device `c` is the block of device `c ^ s`. -/
@[irreducible] def WQ (wq : Dev nD → BlkQ F) (c : Dev nD) : (refQ : Ref sig .tc).ty.Contents (Elt F) :=
  fun i => wq (xr c (i 0).val) fun a => i a.succ
/-- The scratch of output weights once all is gathered. -/
@[irreducible] def WO (wo : Dev nD → BlkO F) (c : Dev nD) : (refO : Ref sig .tc).ty.Contents (Elt F) :=
  fun i => wo (xr c (i 0).val) fun a => i a.succ

/-! ## Buffers held by windows -/

/-- A rectangle of the query weights' buffer, held with a share. -/
abbrev ptsQAt (c : Dev nD) (s o n : ℕ) (q : PosShare TreeShare) (f : (refQ : Ref sig .tc).ty.Contents (Elt F))
    (h : ∀ a, (![s, o, 0] : Fin 3 → ℕ) a + (![1, n, 256] : Fin 3 → ℕ) a ≤ S8x512x256.size a := by decide)
    (hq : (⟨3, ![1, n, 256]⟩ : Shape).Squeezes ⟨2, ![n, 256]⟩ := by decide) : sProp 𝕄 :=
  (winQ s o n h hq).view.loc (c : Thread nD τ) ↦[(winQ s o n h hq).view.set]{q} f
/-- A rectangle of the output weights' buffer, held with a share. -/
abbrev ptsOAt (c : Dev nD) (s o n : ℕ) (q : PosShare TreeShare) (f : (refO : Ref sig .tc).ty.Contents (Elt F))
    (h : ∀ a, (![s, o, 0] : Fin 3 → ℕ) a + (![1, n, 512] : Fin 3 → ℕ) a ≤ S8x256x512.size a := by decide)
    (hq : (⟨3, ![1, n, 512]⟩ : Shape).Squeezes ⟨2, ![n, 512]⟩ := by decide) : sProp 𝕄 :=
  (winO s o n h hq).view.loc (c : Thread nD τ) ↦[(winO s o n h hq).view.set]{q} f
/-- A rectangle of the query weights' buffer, held whole. -/
abbrev ptsQ (c : Dev nD) (s o n : ℕ) (f : (refQ : Ref sig .tc).ty.Contents (Elt F))
    (h : ∀ a, (![s, o, 0] : Fin 3 → ℕ) a + (![1, n, 256] : Fin 3 → ℕ) a ≤ S8x512x256.size a := by decide)
    (hq : (⟨3, ![1, n, 256]⟩ : Shape).Squeezes ⟨2, ![n, 256]⟩ := by decide) : sProp 𝕄 := ptsQAt c s o n fullShare f h hq
/-- A rectangle of the output weights' buffer, held whole. -/
abbrev ptsO (c : Dev nD) (s o n : ℕ) (f : (refO : Ref sig .tc).ty.Contents (Elt F))
    (h : ∀ a, (![s, o, 0] : Fin 3 → ℕ) a + (![1, n, 512] : Fin 3 → ℕ) a ≤ S8x256x512.size a := by decide)
    (hq : (⟨3, ![1, n, 512]⟩ : Shape).Squeezes ⟨2, ![n, 512]⟩ := by decide) : sProp 𝕄 := ptsOAt c s o n fullShare f h hq
/-- A device's own block of weights in its staging buffer, at a share. -/
abbrev ownQ (c : Dev nD) (q : PosShare TreeShare) (f : BlkQ F) : sProp 𝕄 :=
  (Memref.whole refA1).view.loc (c : Thread nD τ) ↦[(Memref.whole refA1).view.set]{q} f
/-- The device's own block of output weights, held with a share. -/
abbrev ownO (c : Dev nD) (q : PosShare TreeShare) (f : BlkO F) : sProp 𝕄 :=
  (Memref.whole refA4).view.loc (c : Thread nD τ) ↦[(Memref.whole refA4).view.set]{q} f

/-- The share of the own block lent to the copy in direction `i`. -/
abbrev lent : ℕ → PosShare TreeShare
  | 0 => fullShare.left.left
  | 1 => fullShare.left.right
  | _ => fullShare.right.left

/-! ## The schedule -/

/-- The window of device `p` that the copy to its receive cell of number `k` fills, at some contents, and that the cell has reached its round. -/
def hole (p : Dev nD) : ℕ → sProp 𝕄
  | 12 => iprop((∃ f, ptsQ p 1 0 512 f) ∗ reached ER (cel p 12) 0)
  | 13 => iprop((∃ f, ptsO p 1 0 256 f) ∗ reached ER (cel p 13) 0)
  | 14 => iprop((∃ f, ptsQ p 3 0 512 f) ∗ reached ER (cel p 14) 0)
  | 15 => iprop((∃ f, ptsO p 3 0 256 f) ∗ reached ER (cel p 15) 0)
  | 16 => iprop((∃ f, ptsQ p 4 0 512 f) ∗ reached ER (cel p 16) 0)
  | 17 => iprop((∃ f, ptsO p 4 0 256 f) ∗ reached ER (cel p 17) 0)
  | 24 => iprop((∃ f, ptsQ p 5 0 512 f) ∗ reached ER (cel p 24) 0)
  | 25 => iprop((∃ f, ptsO p 5 0 256 f) ∗ reached ER (cel p 25) 0)
  | 26 => iprop((∃ f, ptsQ p 2 0 512 f) ∗ reached ER (cel p 26) 0)
  | 27 => iprop((∃ f, ptsO p 2 0 256 f) ∗ reached ER (cel p 27) 0)
  | 28 => iprop((∃ f, ptsQ p 7 0 512 f) ∗ reached ER (cel p 28) 0)
  | 29 => iprop((∃ f, ptsO p 7 0 256 f) ∗ reached ER (cel p 29) 0)
  | 36 => iprop((∃ f, ptsQ p 6 0 176 f) ∗ reached ER (cel p 36) 0)
  | 37 => iprop((∃ f, ptsO p 6 0 88 f) ∗ reached ER (cel p 37) 0)
  | 38 => iprop((∃ f, ptsQ p 6 176 176 f) ∗ reached ER (cel p 38) 0)
  | 39 => iprop((∃ f, ptsO p 6 88 88 f) ∗ reached ER (cel p 39) 0)
  | 40 => iprop((∃ f, ptsQ p 6 352 160 f) ∗ reached ER (cel p 40) 0)
  | 41 => iprop((∃ f, ptsO p 6 176 80 f) ∗ reached ER (cel p 41) 0)
  | _ => iprop(emp)

/-- The direction's bits. -/
abbrev bits : Fin 3 → ℕ
  | 0 => 1
  | 1 => 3
  | 2 => 4

/-- The direction of the copy to the receive cell of number `k`. -/
abbrev dir (k : ℕ) : Fin 3 := ⟨k / 2 % 3, Nat.mod_lt _ (by decide)⟩
/-- Its bits. -/
abbrev msk (k : ℕ) : ℕ := bits (dir k)
/-- The level of the receive cell of number `k`: 2, 3, 4 for the phases A, B, C. -/
abbrev lev (k : ℕ) : ℕ := k / 12 + 1

/-- What the signal of the neighbour `p` in direction `i` hands over: the windows of `p` which this device's copies in that
    direction fill, and that the receive cells of those copies have reached their round. -/
def barPay (p : Dev nD) (i : Fin 3) : sProp 𝕄 :=
  iprop(hole p (12 + 2 * i.val) ∗ hole p (13 + 2 * i.val) ∗ hole p (24 + 2 * i.val) ∗ hole p (25 + 2 * i.val) ∗ hole p (36 + 2 * i.val) ∗ hole p (37 + 2 * i.val))

/-- What the one duty of each send and receive cell of device `c` hands over. -/
def dmaPay (wq : Dev nD → BlkQ F) (wo : Dev nD → BlkO F) (c : Dev nD) : ℕ → sProp 𝕄
  | 6 => iprop(ownQ c (lent 0) (wq c))
  | 7 => iprop(ownO c (lent 0) (wo c))
  | 8 => iprop(ownQ c (lent 1) (wq c))
  | 9 => iprop(ownO c (lent 1) (wo c))
  | 10 => iprop(ownQ c (lent 2) (wq c))
  | 11 => iprop(ownO c (lent 2) (wo c))
  | 12 => iprop(ptsQAt c 1 0 512 fullShare (WQ wq c))
  | 13 => iprop(ptsOAt c 1 0 256 fullShare (WO wo c))
  | 14 => iprop(ptsQAt c 3 0 512 fullShare (WQ wq c))
  | 15 => iprop(ptsOAt c 3 0 256 fullShare (WO wo c))
  | 16 => iprop(ptsQAt c 4 0 512 fullShare (WQ wq c))
  | 17 => iprop(ptsOAt c 4 0 256 fullShare (WO wo c))
  | 18 => iprop(ptsQAt c 4 0 512 fullShare.left (WQ wq c))
  | 19 => iprop(ptsOAt c 4 0 256 fullShare.left (WO wo c))
  | 20 => iprop(ptsQAt c 1 0 512 fullShare.left (WQ wq c))
  | 21 => iprop(ptsOAt c 1 0 256 fullShare.left (WO wo c))
  | 22 => iprop(ptsQAt c 3 0 512 fullShare.left (WQ wq c))
  | 23 => iprop(ptsOAt c 3 0 256 fullShare.left (WO wo c))
  | 24 => iprop(ptsQAt c 5 0 512 fullShare (WQ wq c))
  | 25 => iprop(ptsOAt c 5 0 256 fullShare (WO wo c))
  | 26 => iprop(ptsQAt c 2 0 512 fullShare (WQ wq c))
  | 27 => iprop(ptsOAt c 2 0 256 fullShare (WO wo c))
  | 28 => iprop(ptsQAt c 7 0 512 fullShare (WQ wq c))
  | 29 => iprop(ptsOAt c 7 0 256 fullShare (WO wo c))
  | 30 => iprop(ptsQAt c 7 0 176 fullShare.left (WQ wq c))
  | 31 => iprop(ptsOAt c 7 0 88 fullShare.left (WO wo c))
  | 32 => iprop(ptsQAt c 5 176 176 fullShare.left (WQ wq c))
  | 33 => iprop(ptsOAt c 5 88 88 fullShare.left (WO wo c))
  | 34 => iprop(ptsQAt c 2 352 160 fullShare.left (WQ wq c))
  | 35 => iprop(ptsOAt c 2 176 80 fullShare.left (WO wo c))
  | 36 => iprop(ptsQAt c 6 0 176 fullShare (WQ wq c))
  | 37 => iprop(ptsOAt c 6 0 88 fullShare (WO wo c))
  | 38 => iprop(ptsQAt c 6 176 176 fullShare (WQ wq c))
  | 39 => iprop(ptsOAt c 6 88 88 fullShare (WO wo c))
  | 40 => iprop(ptsQAt c 6 352 160 fullShare (WQ wq c))
  | 41 => iprop(ptsOAt c 6 176 80 fullShare (WO wo c))
  | _ => iprop(emp)

/-- The units of a copy, by the number of its send or receive cell. -/
def amt : ℕ → ℕ
  | 30 => 2816
  | 31 => 2816
  | 32 => 2816
  | 33 => 2816
  | 34 => 2560
  | 35 => 2560
  | 36 => 2816
  | 37 => 2816
  | 38 => 2816
  | 39 => 2816
  | 40 => 2560
  | 41 => 2560
  | _ => 8192

/-- Every copy counts some units. -/
theorem amt_pos (k : ℕ) : 0 < amt k := by unfold amt; split <;> decide

/-- Three duties of one unit on a barrier cell, one duty on each send and receive cell, all in round 0. -/
def rd (wq : Dev nD → BlkQ F) (wo : Dev nD → BlkO F) : Rounds.Schedule (GSem nD τ sig) (Fin 3) 𝕄 where
  duties g r := if r = 0 ∧ g.1.2 = .tc then (match g.2 with | .reg _ => {0, 1, 2} | .dma k => if 6 ≤ k.val then {0} else ∅) else ∅
  unitless _ := False
  amount g _ _ := match g.2 with | .reg _ => 1 | .dma k => amt k.val
  payload g _ d := match g.2 with | .reg _ => barPay (xr g.1.1 (bits d)) d | .dma k => dmaPay wq wo g.1.1 k.val
  amount_pos g _ _ _ := by
    rcases g with ⟨t, s | k⟩
    · exact Nat.one_pos
    · exact amt_pos _

instance rd_payload_storable (wq : Dev nD → BlkQ F) (wo : Dev nD → BlkO F) (g : GSem nD τ sig) (r : ℕ) (d : Fin 3) :
    BI.Storable (upEmb : UEmb _ 𝕄) ((rd wq wo).payload g r d) := by
  rcases g with ⟨t, s | k⟩
  · show BI.Storable upEmb (barPay (F := F) (xr t.1 (bits d)) d)
    have h (p : Dev nD) (k : ℕ) : BI.Storable upEmb (hole (F := F) p k) := by unfold hole; split <;> infer_instance
    unfold barPay
    have := h (xr t.1 (bits d)); infer_instance
  · show BI.Storable upEmb (dmaPay wq wo t.1 k.val)
    unfold dmaPay
    split <;> infer_instance

section Tables

variable (wq : Dev nD → BlkQ F) (wo : Dev nD → BlkO F) (c : Dev nD)

/-- Three neighbours signal the barrier. -/
theorem duties_bar : (rd wq wo).duties (barC c) 0 = {0, 1, 2} := by dsimp only [rd]; exact if_pos ⟨rfl, rfl⟩
/-- A copy's semaphore is paid once. -/
theorem duties_cel (k : ℕ) (h : k < 42) (h6 : 6 ≤ k) : (rd wq wo).duties (cel c k) 0 = {0} := by
  dsimp only [rd]; rw [if_pos ⟨rfl, rfl⟩]; exact if_pos (by rw [Nat.mod_eq_of_lt h]; exact h6)
/-- Nothing is paid after the first round. -/
theorem duties_later (g : GSem nD τ sig) : ∀ r, 1 ≤ r → (rd wq wo).duties g r = ∅ :=
  fun r hr => by dsimp only [rd]; exact if_neg fun h => by omega

/-- Each signal on the barrier is one unit. -/
theorem amount_bar (d : Fin 3) : (rd wq wo).amount (barC c) 0 d = 1 := rfl
/-- A copy pays its size. -/
theorem amount_cel (k : ℕ) (h : k < 42) (d : Fin 3) : (rd wq wo).amount (cel c k) 0 d = amt k := by dsimp only [rd]; rw [Nat.mod_eq_of_lt h]

/-- The barrier is waited for with three units. -/
theorem expect_bar : (rd wq wo).expect (barC c) 0 = 3 := by
  unfold Schedule.expect Schedule.amountOf; rw [duties_bar]; rfl
/-- A copy's semaphore is waited for with the copy's size. -/
theorem expect_cel (k : ℕ) (h : k < 42) (h6 : 6 ≤ k) : (rd wq wo).expect (cel c k) 0 = amt k := by
  unfold Schedule.expect Schedule.amountOf; rw [duties_cel wq wo c k h h6, Finset.sum_singleton, amount_cel wq wo c k h]

/-- What a signal on the barrier hands over. -/
theorem payload_bar (d : Fin 3) : (rd wq wo).payload (barC c) 0 d = barPay (xr c (bits d)) d := rfl
/-- What a copy hands over. -/
theorem payload_cel (k : ℕ) (h : k < 42) (d : Fin 3) : (rd wq wo).payload (cel c k) 0 d = dmaPay wq wo c k := by dsimp only [rd]; rw [Nat.mod_eq_of_lt h]

end Tables

end Cert.KernelIdeal.Own

end
-- ==== Proof.Land.lean ====
/-
  What a copy leaves in the window it fills: the contents the schedule names.
-/
module

public import proofs.«01_k».proof.Proof.Cells

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig ℕ (Elt F) ℕ UU ℕ

/-- Where index `y` of a window of rows sits in a scratch of eight slots: slot `s`, row `o + y 0`, column `y 1`. -/
theorem win_emb (R C s o n : ℕ) (h : ∀ a, (![s, o, 0] : Fin 3 → ℕ) a + (![1, n, C] : Fin 3 → ℕ) a ≤ (⟨3, ![8, R, C]⟩ : Shape).size a)
    (hn : (⟨2, ![n, C]⟩ : Shape).numel = (⟨3, ![1, n, C]⟩ : Shape).numel) (y : (⟨2, ![n, C]⟩ : Shape).Idx) :
    (((Rect.unit (s := ⟨3, ![8, R, C]⟩) ![s, o, 0] ![1, n, C] h).emb (Shape.reshapeEquiv hn y)) 0).val = s
      ∧ (((Rect.unit (s := ⟨3, ![8, R, C]⟩) ![s, o, 0] ![1, n, C] h).emb (Shape.reshapeEquiv hn y)) 1).val = o + (y 0).val
      ∧ (((Rect.unit (s := ⟨3, ![8, R, C]⟩) ![s, o, 0] ![1, n, C] h).emb (Shape.reshapeEquiv hn y)) 2).val = (y 1).val := by
  rw [Shape.reshapeEquiv_cons_one (n := 2) (d := ![n, C])]
  refine ⟨?_, ?_, ?_⟩
  · rw [Rect.emb_apply]; rfl
  · rw [Rect.emb_apply]; show o + 1 * (y 0).val = _; omega
  · rw [Rect.emb_apply]; show 0 + 1 * (y 1).val = _; omega

/-- The gathered query weights agree at two places of the same row and column whose slots name the same device. -/
theorem WQ_congr (wq : Dev nD → BlkQ F) {c p : Dev nD} {i j : S8x512x256.Idx} (h0 : xr c (i 0).val = xr p (j 0).val)
    (h1 : (i 1).val = (j 1).val) (h2 : (i 2).val = (j 2).val) : WQ wq c i = WQ wq p j := by
  unfold WQ
  rw [h0]
  congr 1; funext a
  fin_cases a
  · exact Fin.ext h1
  · exact Fin.ext h2
/-- The output weights of a slot depend only on whose they are. -/
theorem WO_congr (wo : Dev nD → BlkO F) {c p : Dev nD} {i j : S8x256x512.Idx} (h0 : xr c (i 0).val = xr p (j 0).val)
    (h1 : (i 1).val = (j 1).val) (h2 : (i 2).val = (j 2).val) : WO wo c i = WO wo p j := by
  unfold WO
  rw [h0]
  congr 1; funext a
  fin_cases a
  · exact Fin.ext h1
  · exact Fin.ext h2

section
variable (wq : Dev nD → BlkQ F) (wo : Dev nD → BlkO F)

/-- A copy of rows of one gathered slot into the same rows of another device's slot leaves what that slot is to hold. -/
theorem landQ {c p : Dev nD} {s s' o n : ℕ} (hs : xr p s' = xr c s) (h hq h' hq') (fd : (refQ : Ref sig .tc).ty.Contents (Elt F)) :
    (ptsQ p s' o n ((winQ s' o n h' hq').view.write (Elt F) fd ((winQ s o n h hq).view.read (Elt F) (WQ wq c)) Finset.univ) h' hq' : sProp 𝕄)
      = ptsQ p s' o n (WQ wq p) h' hq' := by
  refine pointsTo_congr fun i hi => ?_
  obtain ⟨y, -, rfl⟩ := Finset.mem_map.mp hi
  rw [View.write_emb_of_mem _ _ (Finset.mem_univ y)]
  obtain ⟨a0, a1, a2⟩ := win_emb 512 256 s o n h (Shape.Squeezes.numel_eq hq) y
  obtain ⟨b0, b1, b2⟩ := win_emb 512 256 s' o n h' (Shape.Squeezes.numel_eq hq') y
  exact WQ_congr wq ((congrArg (xr c) a0).trans (hs.symm.trans (congrArg (xr p) b0.symm))) (a1.trans b1.symm) (a2.trans b2.symm)
/-- A forwarded block of output weights lands as the block that its slot is for. -/
theorem landO {c p : Dev nD} {s s' o n : ℕ} (hs : xr p s' = xr c s) (h hq h' hq') (fd : (refO : Ref sig .tc).ty.Contents (Elt F)) :
    (ptsO p s' o n ((winO s' o n h' hq').view.write (Elt F) fd ((winO s o n h hq).view.read (Elt F) (WO wo c)) Finset.univ) h' hq' : sProp 𝕄)
      = ptsO p s' o n (WO wo p) h' hq' := by
  refine pointsTo_congr fun i hi => ?_
  obtain ⟨y, -, rfl⟩ := Finset.mem_map.mp hi
  rw [View.write_emb_of_mem _ _ (Finset.mem_univ y)]
  obtain ⟨a0, a1, a2⟩ := win_emb 256 512 s o n h (Shape.Squeezes.numel_eq hq) y
  obtain ⟨b0, b1, b2⟩ := win_emb 256 512 s' o n h' (Shape.Squeezes.numel_eq hq') y
  exact WO_congr wo ((congrArg (xr c) a0).trans (hs.symm.trans (congrArg (xr p) b0.symm))) (a1.trans b1.symm) (a2.trans b2.symm)

/-- A copy of a device's own block into another device's slot leaves what that slot is to hold. -/
theorem landOwnQ {c p : Dev nD} {s : ℕ} (hs : xr p s = c) (h hq) (fd : (refQ : Ref sig .tc).ty.Contents (Elt F)) :
    (ptsQ p s 0 512 ((winQ s 0 512 h hq).view.write (Elt F) fd ((Memref.whole refA1).view.read (Elt F) (wq c)) Finset.univ) h hq : sProp 𝕄)
      = ptsQ p s 0 512 (WQ wq p) h hq := by
  refine pointsTo_congr fun i hi => ?_
  obtain ⟨y, -, rfl⟩ := Finset.mem_map.mp hi
  rw [View.write_emb_of_mem _ _ (Finset.mem_univ y)]
  obtain ⟨b0, b1, b2⟩ := win_emb 512 256 s 0 512 h (Shape.Squeezes.numel_eq hq) y
  unfold WQ
  show wq c y = _
  have e0 : xr p ((((winQ s 0 512 h hq).view.emb y : S8x512x256.Idx) 0).val) = c := (congrArg (xr p) b0).trans hs
  rw [e0]
  congr 1; funext a
  fin_cases a
  · exact Fin.ext (by rw [Nat.zero_add] at b1; exact b1.symm)
  · exact Fin.ext b2.symm
/-- A device's own block of output weights lands as the block that the peer's slot is for. -/
theorem landOwnO {c p : Dev nD} {s : ℕ} (hs : xr p s = c) (h hq) (fd : (refO : Ref sig .tc).ty.Contents (Elt F)) :
    (ptsO p s 0 256 ((winO s 0 256 h hq).view.write (Elt F) fd ((Memref.whole refA4).view.read (Elt F) (wo c)) Finset.univ) h hq : sProp 𝕄)
      = ptsO p s 0 256 (WO wo p) h hq := by
  refine pointsTo_congr fun i hi => ?_
  obtain ⟨y, -, rfl⟩ := Finset.mem_map.mp hi
  rw [View.write_emb_of_mem _ _ (Finset.mem_univ y)]
  obtain ⟨b0, b1, b2⟩ := win_emb 256 512 s 0 256 h (Shape.Squeezes.numel_eq hq) y
  unfold WO
  show wo c y = _
  have e0 : xr p ((((winO s 0 256 h hq).view.emb y : S8x256x512.Idx) 0).val) = c := (congrArg (xr p) b0).trans hs
  rw [e0]
  congr 1; funext a
  fin_cases a
  · exact Fin.ext (by rw [Nat.zero_add] at b1; exact b1.symm)
  · exact Fin.ext b2.symm
end

end Cert.KernelIdeal.Own

end
-- ==== Proof.Windows.lean ====
/-
  The windows of the two gathered scratches as sets of places, and how what is held splits and joins along them.
-/
module

public import proofs.«01_k».proof.Proof.Land

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig ℕ (Elt F) ℕ UU ℕ

/-- A place is in rows `o … o + n - 1` of slot `s` of the query scratch when its first two coordinates say so. -/
theorem mem_winQ {s o n : ℕ} (h hq) {i : S8x512x256.Idx} :
    i ∈ (winQ s o n h hq).view.set ↔ (i 0).val = s ∧ o ≤ (i 1).val ∧ (i 1).val < o + n := by
  have e : ((winQ s o n h hq).view.set : Finset S8x512x256.Idx) = (Rect.unit (s := S8x512x256) ![s, o, 0] ![1, n, 256] h).set :=
    (Memref.set_view_squeeze _ hq).trans (View.set_slice_whole refQ _)
  rw [e]
  refine Rect.mem_set_unit.trans ⟨fun H => ?_, fun ⟨h0, h1, h2⟩ a => ?_⟩
  · have h0 : s ≤ (i 0).val ∧ (i 0).val < s + 1 := H 0
    have h1 : o ≤ (i 1).val ∧ (i 1).val < o + n := H 1
    omega
  · fin_cases a
    · show s ≤ (i 0).val ∧ (i 0).val < s + 1; omega
    · exact ⟨h1, h2⟩
    · exact ⟨Nat.zero_le _, (Nat.zero_add 256).symm ▸ (i 2).isLt⟩
/-- The same for the output scratch. -/
theorem mem_winO {s o n : ℕ} (h hq) {i : S8x256x512.Idx} :
    i ∈ (winO s o n h hq).view.set ↔ (i 0).val = s ∧ o ≤ (i 1).val ∧ (i 1).val < o + n := by
  have e : ((winO s o n h hq).view.set : Finset S8x256x512.Idx) = (Rect.unit (s := S8x256x512) ![s, o, 0] ![1, n, 512] h).set :=
    (Memref.set_view_squeeze _ hq).trans (View.set_slice_whole refO _)
  rw [e]
  refine Rect.mem_set_unit.trans ⟨fun H => ?_, fun ⟨h0, h1, h2⟩ a => ?_⟩
  · have h0 : s ≤ (i 0).val ∧ (i 0).val < s + 1 := H 0
    have h1 : o ≤ (i 1).val ∧ (i 1).val < o + n := H 1
    omega
  · fin_cases a
    · show s ≤ (i 0).val ∧ (i 0).val < s + 1; omega
    · exact ⟨h1, h2⟩
    · exact ⟨Nat.zero_le _, (Nat.zero_add 512).symm ▸ (i 2).isLt⟩

/-! ## Shares -/

section
variable {ℓ : Loc nD τ sig} {I J S : Finset (Idx ℓ)} {q : PosShare TreeShare} {f : Buf (Elt F) ℓ}

/-- What is held at a share is held at its two halves. -/
theorem halves : (ℓ ↦[I]{q} f : sProp 𝕄) ⊢ iprop((ℓ ↦[I]{q.left} f) ∗ ℓ ↦[I]{q.right} f) :=
  (pointsTo_share (PosShare.mem_left_op_right q)).1
/-- And the halves make the whole again. -/
theorem unhalve : iprop((ℓ ↦[I]{q.left} f) ∗ ℓ ↦[I]{q.right} f) ⊢ (ℓ ↦[I]{q} f : sProp 𝕄) :=
  (pointsTo_share (PosShare.mem_left_op_right q)).2

/-- A half of part of the places is set aside, and the other half of all places stays for reading. -/
theorem halves_part (h : I ⊆ S) : (ℓ ↦[S]{q} f : sProp 𝕄) ⊢ iprop((ℓ ↦[I]{q.left} f) ∗ (ℓ ↦[S]{q.right} f) ∗ ℓ ↦[S \ I]{q.left} f) := by
  iintro H
  ihave H := halves $$ H
  icases H with ⟨Hl, Hr⟩
  ihave Hl := (pointsTo_split_subset h).1 $$ Hl
  icases Hl with ⟨Ha, Hb⟩
  isplitl [Ha]; · iexact Ha
  isplitl [Hr]; · iexact Hr
  iexact Hb
/-- And back. -/
theorem unhalve_part (h : I ⊆ S) : iprop((ℓ ↦[I]{q.left} f) ∗ (ℓ ↦[S]{q.right} f) ∗ ℓ ↦[S \ I]{q.left} f) ⊢ (ℓ ↦[S]{q} f : sProp 𝕄) := by
  iintro ⟨Ha, Hr, Hb⟩
  iapply unhalve
  isplitr [Hr]
  · iapply (pointsTo_split_subset h).2
    isplitl [Ha]; · iexact Ha
    iexact Hb
  iexact Hr
/-- The four parts of a share: three to lend and one to read at. -/
theorem quarters : (ℓ ↦[I]{q} f : sProp 𝕄) ⊢ iprop((ℓ ↦[I]{q.left.left} f) ∗ (ℓ ↦[I]{q.left.right} f) ∗ (ℓ ↦[I]{q.right.left} f) ∗ ℓ ↦[I]{q.right.right} f) := by
  iintro H
  ihave H := halves $$ H
  icases H with ⟨Hl, Hr⟩
  ihave Hl := halves $$ Hl
  icases Hl with ⟨H1, H2⟩
  ihave Hr := halves $$ Hr
  icases Hr with ⟨H3, H4⟩
  isplitl [H1]; · iexact H1
  isplitl [H2]; · iexact H2
  isplitl [H3]; · iexact H3
  iexact H4
/-- And back. -/
theorem unquarter : iprop((ℓ ↦[I]{q.left.left} f) ∗ (ℓ ↦[I]{q.left.right} f) ∗ (ℓ ↦[I]{q.right.left} f) ∗ ℓ ↦[I]{q.right.right} f) ⊢ (ℓ ↦[I]{q} f : sProp 𝕄) := by
  iintro ⟨H1, H2, H3, H4⟩
  iapply unhalve
  isplitl [H1 H2]
  · iapply unhalve
    isplitl [H1]; · iexact H1
    iexact H2
  iapply unhalve
  isplitl [H3]; · iexact H3
  iexact H4
end

/-! ## Rows of one slot -/

/-- Rows of a slot are part of the slot. -/
theorem rowsQ_sub {s o n : ℕ} (h hq h' hq') : (winQ s o n h hq).view.set ⊆ (winQ s 0 512 h' hq').view.set := by
  intro i hi
  obtain ⟨h0, -, -⟩ := (mem_winQ h hq).mp hi
  exact (mem_winQ h' hq').mpr ⟨h0, Nat.zero_le _, (Nat.zero_add 512).symm ▸ (i 1).isLt⟩
/-- Rows of a slot lie in the slot. -/
theorem rowsO_sub {s o n : ℕ} (h hq h' hq') : (winO s o n h hq).view.set ⊆ (winO s 0 256 h' hq').view.set := by
  intro i hi
  obtain ⟨h0, -, -⟩ := (mem_winO h hq).mp hi
  exact (mem_winO h' hq').mpr ⟨h0, Nat.zero_le _, (Nat.zero_add 256).symm ▸ (i 1).isLt⟩

/-- The three bands of rows of a slot of the query scratch are the slot. -/
theorem bandsQ (c : Dev nD) (s : ℕ) (q : PosShare TreeShare) (f : (refQ : Ref sig .tc).ty.Contents (Elt F)) (h1 g1 h2 g2 h3 g3 h g) :
    iprop(ptsQAt c s 0 176 q f h1 g1 ∗ ptsQAt c s 176 176 q f h2 g2 ∗ ptsQAt c s 352 160 q f h3 g3) ⊣⊢ (ptsQAt c s 0 512 q f h g : sProp 𝕄) := by
  have e : (winQ s 0 512 h g).view.set = (winQ s 0 176 h1 g1).view.set ∪ ((winQ s 176 176 h2 g2).view.set ∪ (winQ s 352 160 h3 g3).view.set) := by
    ext i
    have hi : (i 1).val < 512 := (i 1).isLt
    rw [Finset.mem_union, Finset.mem_union, mem_winQ, mem_winQ, mem_winQ, mem_winQ]
    omega
  have d1 : Disjoint (winQ s 176 176 h2 g2).view.set (winQ s 352 160 h3 g3).view.set :=
    Finset.disjoint_left.mpr fun i a b => by rw [mem_winQ] at a b; omega
  have d2 : Disjoint (winQ s 0 176 h1 g1).view.set ((winQ s 176 176 h2 g2).view.set ∪ (winQ s 352 160 h3 g3).view.set) :=
    Finset.disjoint_left.mpr fun i a b => by rw [Finset.mem_union, mem_winQ, mem_winQ] at b; rw [mem_winQ] at a; omega
  unfold ptsQAt
  rw [e]
  have A := pointsTo_union (Ix := ℕ) (Name := ℕ) (U := UU) (Lvl := ℕ) (Val := Elt F) (ℓ := (winQ s 0 512 h g).view.loc (c : Thread nD τ)) (q := q) (f := f) d1
  have B := pointsTo_union (Ix := ℕ) (Name := ℕ) (U := UU) (Lvl := ℕ) (Val := Elt F) (ℓ := (winQ s 0 512 h g).view.loc (c : Thread nD τ)) (q := q) (f := f) d2
  exact ⟨(sep_mono_right A.2).trans B.2, B.1.trans (sep_mono_right A.1)⟩
/-- The three bands of rows of a slot of the output scratch are the slot. -/
theorem bandsO (c : Dev nD) (s : ℕ) (q : PosShare TreeShare) (f : (refO : Ref sig .tc).ty.Contents (Elt F)) (h1 g1 h2 g2 h3 g3 h g) :
    iprop(ptsOAt c s 0 88 q f h1 g1 ∗ ptsOAt c s 88 88 q f h2 g2 ∗ ptsOAt c s 176 80 q f h3 g3) ⊣⊢ (ptsOAt c s 0 256 q f h g : sProp 𝕄) := by
  have e : (winO s 0 256 h g).view.set = (winO s 0 88 h1 g1).view.set ∪ ((winO s 88 88 h2 g2).view.set ∪ (winO s 176 80 h3 g3).view.set) := by
    ext i
    have hi : (i 1).val < 256 := (i 1).isLt
    rw [Finset.mem_union, Finset.mem_union, mem_winO, mem_winO, mem_winO, mem_winO]
    omega
  have d1 : Disjoint (winO s 88 88 h2 g2).view.set (winO s 176 80 h3 g3).view.set :=
    Finset.disjoint_left.mpr fun i a b => by rw [mem_winO] at a b; omega
  have d2 : Disjoint (winO s 0 88 h1 g1).view.set ((winO s 88 88 h2 g2).view.set ∪ (winO s 176 80 h3 g3).view.set) :=
    Finset.disjoint_left.mpr fun i a b => by rw [Finset.mem_union, mem_winO, mem_winO] at b; rw [mem_winO] at a; omega
  unfold ptsOAt
  rw [e]
  have A := pointsTo_union (Ix := ℕ) (Name := ℕ) (U := UU) (Lvl := ℕ) (Val := Elt F) (ℓ := (winO s 0 256 h g).view.loc (c : Thread nD τ)) (q := q) (f := f) d1
  have B := pointsTo_union (Ix := ℕ) (Name := ℕ) (U := UU) (Lvl := ℕ) (Val := Elt F) (ℓ := (winO s 0 256 h g).view.loc (c : Thread nD τ)) (q := q) (f := f) d2
  exact ⟨(sep_mono_right A.2).trans B.2, B.1.trans (sep_mono_right A.1)⟩

/-! ## The slots of a scratch -/

/-- A slot lies within the query weights' buffer. -/
theorem slotQ_ok (s : ℕ) (hs : s < 8) : ∀ a, (![s, 0, 0] : Fin 3 → ℕ) a + (![1, 512, 256] : Fin 3 → ℕ) a ≤ S8x512x256.size a := by
  intro a
  fin_cases a
  · show s + 1 ≤ 8; omega
  · show 0 + 512 ≤ 512; omega
  · show 0 + 256 ≤ 256; omega
/-- A slot lies within the output weights' buffer. -/
theorem slotO_ok (s : ℕ) (hs : s < 8) : ∀ a, (![s, 0, 0] : Fin 3 → ℕ) a + (![1, 256, 512] : Fin 3 → ℕ) a ≤ S8x256x512.size a := by
  intro a
  fin_cases a
  · show s + 1 ≤ 8; omega
  · show 0 + 256 ≤ 256; omega
  · show 0 + 512 ≤ 512; omega

/-- A slot without its axis of length one. -/
abbrev sqQ : (⟨3, ![1, 512, 256]⟩ : Shape).Squeezes ⟨2, ![512, 256]⟩ := by decide
/-- A slot without its axis of length one. -/
abbrev sqO : (⟨3, ![1, 256, 512]⟩ : Shape).Squeezes ⟨2, ![256, 512]⟩ := by decide

/-- The places of a slot of query weights. -/
abbrev slotQ (s : Fin 8) : Finset S8x512x256.Idx := (winQ s.val 0 512 (slotQ_ok s.val s.isLt) sqQ).view.set
/-- The places of a slot of output weights. -/
abbrev slotO (s : Fin 8) : Finset S8x256x512.Idx := (winO s.val 0 256 (slotO_ok s.val s.isLt) sqO).view.set

/-- Two slots of query weights have no place in common. -/
theorem slotsQ_disj (a b : Fin 8) (h : a ≠ b) : Disjoint (slotQ a) (slotQ b) :=
  Finset.disjoint_left.mpr fun i hi hj => h (Fin.ext (((mem_winQ _ _).mp hi).1.symm.trans ((mem_winQ _ _).mp hj).1))
/-- Two slots of output weights have no place in common. -/
theorem slotsO_disj (a b : Fin 8) (h : a ≠ b) : Disjoint (slotO a) (slotO b) :=
  Finset.disjoint_left.mpr fun i hi hj => h (Fin.ext (((mem_winO _ _).mp hi).1.symm.trans ((mem_winO _ _).mp hj).1))

/-- The eight slots are the whole scratch. -/
theorem slotsQ_all : (Memref.whole refQ).view.set = Finset.univ.biUnion slotQ := by
  ext i
  refine ⟨fun _ => ?_, fun _ => ?_⟩
  · exact Finset.mem_biUnion.mpr ⟨i 0, Finset.mem_univ _, (mem_winQ _ _).mpr ⟨rfl, Nat.zero_le _, (Nat.zero_add 512).symm ▸ (i 1).isLt⟩⟩
  · exact Finset.mem_map.mpr ⟨i, Finset.mem_univ _, rfl⟩
/-- The slots of output weights make up the buffer. -/
theorem slotsO_all : (Memref.whole refO).view.set = Finset.univ.biUnion slotO := by
  ext i
  refine ⟨fun _ => ?_, fun _ => ?_⟩
  · exact Finset.mem_biUnion.mpr ⟨i 0, Finset.mem_univ _, (mem_winO _ _).mpr ⟨rfl, Nat.zero_le _, (Nat.zero_add 256).symm ▸ (i 1).isLt⟩⟩
  · exact Finset.mem_map.mpr ⟨i, Finset.mem_univ _, rfl⟩

/-- The query scratch, whole, as its eight slots. -/
theorem cutQ (c : Dev nD) (f : (refQ : Ref sig .tc).ty.Contents (Elt F)) :
    ((Memref.whole refQ).view.loc (c : Thread nD τ) ↦[(Memref.whole refQ).view.set]{fullShare} f : sProp 𝕄)
      ⊢ iprop(ptsQ c 0 0 512 f ∗ ptsQ c 1 0 512 f ∗ ptsQ c 2 0 512 f ∗ ptsQ c 3 0 512 f ∗ ptsQ c 4 0 512 f ∗ ptsQ c 5 0 512 f ∗ ptsQ c 6 0 512 f ∗ ptsQ c 7 0 512 f) := by
  rw [slotsQ_all]
  refine (Entails.of_eq (pointsTo_biUnion (ℓ := (Memref.whole refQ).view.loc (c : Thread nD τ)) Finset.univ slotQ fun a _ b _ h => slotsQ_disj a b h)).trans ?_
  rw [bigSep_eq_bigSepL_of_eq [0, 1, 2, 3, 4, 5, 6, 7] (by decide) (by decide)]
  exact .rfl
/-- The output weights' buffer, cut into its slots. -/
theorem cutO (c : Dev nD) (f : (refO : Ref sig .tc).ty.Contents (Elt F)) :
    ((Memref.whole refO).view.loc (c : Thread nD τ) ↦[(Memref.whole refO).view.set]{fullShare} f : sProp 𝕄)
      ⊢ iprop(ptsO c 0 0 256 f ∗ ptsO c 1 0 256 f ∗ ptsO c 2 0 256 f ∗ ptsO c 3 0 256 f ∗ ptsO c 4 0 256 f ∗ ptsO c 5 0 256 f ∗ ptsO c 6 0 256 f ∗ ptsO c 7 0 256 f) := by
  rw [slotsO_all]
  refine (Entails.of_eq (pointsTo_biUnion (ℓ := (Memref.whole refO).view.loc (c : Thread nD τ)) Finset.univ slotO fun a _ b _ h => slotsO_disj a b h)).trans ?_
  rw [bigSep_eq_bigSepL_of_eq [0, 1, 2, 3, 4, 5, 6, 7] (by decide) (by decide)]
  exact .rfl

/-- Slot 0, which nobody fills, and the seven gathered slots make a whole scratch. -/
theorem uncutQ (c : Dev nD) (f g : (refQ : Ref sig .tc).ty.Contents (Elt F)) :
    iprop(ptsQ c 0 0 512 f ∗ ptsQ c 1 0 512 g ∗ ptsQ c 2 0 512 g ∗ ptsQ c 3 0 512 g ∗ ptsQ c 4 0 512 g ∗ ptsQ c 5 0 512 g ∗ ptsQ c 6 0 512 g ∗ ptsQ c 7 0 512 g)
      ⊢ (iprop(∃ f, (Memref.whole refQ).view.loc (c : Thread nD τ) ↦[(Memref.whole refQ).view.set]{fullShare} f) : sProp 𝕄) := by
  refine BIBase.Entails.trans ?_ ((pointsTo_biUnion_join (q := fullShare) (ℓ := (Memref.whole refQ).view.loc (c : Thread nD τ)) Finset.univ slotQ
    (fun a => if a = 0 then f else g) g fun a _ b _ h => slotsQ_disj a b h).trans ?_)
  · rw [bigSep_eq_bigSepL_of_eq [0, 1, 2, 3, 4, 5, 6, 7] (by decide) (by decide)]
    exact .rfl
  · iintro ⟨%w, -, H⟩
    iexists w
    rw [slotsQ_all]
    iexact H
/-- The slots of output weights, put together to the buffer. -/
theorem uncutO (c : Dev nD) (f g : (refO : Ref sig .tc).ty.Contents (Elt F)) :
    iprop(ptsO c 0 0 256 f ∗ ptsO c 1 0 256 g ∗ ptsO c 2 0 256 g ∗ ptsO c 3 0 256 g ∗ ptsO c 4 0 256 g ∗ ptsO c 5 0 256 g ∗ ptsO c 6 0 256 g ∗ ptsO c 7 0 256 g)
      ⊢ (iprop(∃ f, (Memref.whole refO).view.loc (c : Thread nD τ) ↦[(Memref.whole refO).view.set]{fullShare} f) : sProp 𝕄) := by
  refine BIBase.Entails.trans ?_ ((pointsTo_biUnion_join (q := fullShare) (ℓ := (Memref.whole refO).view.loc (c : Thread nD τ)) Finset.univ slotO
    (fun a => if a = 0 then f else g) g fun a _ b _ h => slotsO_disj a b h).trans ?_)
  · rw [bigSep_eq_bigSepL_of_eq [0, 1, 2, 3, 4, 5, 6, 7] (by decide) (by decide)]
    exact .rfl
  · iintro ⟨%w, -, H⟩
    iexists w
    rw [slotsO_all]
    iexact H

end Cert.KernelIdeal.Own

end
-- ==== Proof.Steps.lean ====
/-
  The state of the protocol on one device between its statements, and what each statement of the protocol makes of it.

  The state is ONE proposition over four lists of cell numbers: the copies still to be sent, in program order; the arrivals still
  to be waited for, in program order; the copies sent whose departure is still to be waited for; the cells that are done with.
-/
module

public import proofs.«01_k».proof.Proof.Windows
public import Idealize.ShloMosaic.Lib.Pipeline.BigSepL

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL addL Fam)
open Idealize.ShloMosaic.SiteBlocks (L lv)

variable {F : FTy → Type}

local notation "𝕄" => MT nD τ sig ℕ (Elt F) ℕ UU ℕ

abbrev 𝒱₀ : Variants := Variants.none

/-- A neighbour's neighbour in the same direction is the device itself. -/
theorem xr_bits : ∀ (c : Dev nD) (d : Fin 3), xr (xr c (bits d)) (bits d) = c := by decide

/-- The receive cells, in the order in which a device sends to them. -/
abbrev ks : List ℕ := [12, 13, 14, 15, 16, 17, 24, 26, 28, 25, 27, 29, 36, 38, 40, 37, 39, 41]
/-- The receive cells, in the order in which a device waits for them. -/
abbrev ws : List ℕ := [16, 12, 14, 17, 13, 15, 28, 24, 26, 29, 25, 27, 36, 38, 40, 37, 39, 41]
/-- The send cells, in the order in which they are used. -/
abbrev ss : List ℕ := [6, 7, 8, 9, 10, 11, 18, 20, 22, 19, 21, 23, 30, 32, 34, 31, 33, 35]
/-- All cells of the copies. -/
abbrev own : List ℕ := ss ++ ks

/-- The DMA semaphore of number `k`. -/
abbrev dm (k : ℕ) : SemLoc sig := .dma ⟨k % 42, Nat.mod_lt _ (by decide)⟩

/-- What a device owes for the copy to the receive cell `k`. -/
abbrev pay (c : Dev nD) (k : ℕ) : Pay nD τ sig := (cel (xr c (msk k)) k, lev k, amt k)
/-- What a device owes for its barrier signal in direction `d`. -/
abbrev payB (c : Dev nD) (d : Fin 3) : Pay nD τ sig := (barC (xr c (bits d)), 1, 1)

/-- The tokens of the duties that device `c` pays. -/
abbrev tokL (c : Dev nD) : List (GSem nD τ sig × ℕ × Fin 3) :=
  [(barC (xr c (bits 0)), 0, 0), (barC (xr c (bits 1)), 0, 1), (barC (xr c (bits 2)), 0, 2)]
    ++ (ks.map (fun k => (cel c (k - 6), 0, 0)) ++ ks.map fun k => (cel (xr c (msk k)) k, 0, 0))

/-- Who pays a duty: on a barrier cell the neighbour in the duty's direction, on a send cell the device, on a receive cell the neighbour. -/
def payer (x : GSem nD τ sig × ℕ × Fin 3) : Dev nD :=
  match x.1.2 with
  | .reg _ => xr x.1.1.1 (bits x.2.2)
  | .dma k => if k.val / 6 % 2 = 1 then x.1.1.1 else xr x.1.1.1 (msk k.val)

/-- A device's tokens are those it pays with. -/
theorem payer_tok : ∀ c : Dev nD, ∀ x ∈ tokL c, payer x = c := by decide

/-- The cells and tokens of the one talking launch. -/
def fam : Fam nD τ sig (Fin 3) 1 where
  bar := .reg barS
  dorm _ := (own.map dm).toFinset
  toks c _ := (tokL c).toFinset
  semKey _ := 0
  hsem j _ _ := Subsingleton.elim _ _
  hbar _ h := by
    rw [List.mem_toFinset, List.mem_map] at h
    obtain ⟨k, -, h⟩ := h
    exact absurd h (by simp [dm])
  tokKey x := (payer x, 0)
  htok c j x h := Prod.ext (payer_tok c x (List.mem_toFinset.mp h)) (Subsingleton.elim _ _)

section
variable (wq : Dev nD → BlkQ F) (wo : Dev nD → BlkO F) (c : Dev nD)

/-- What a copy still to be sent needs of the ghost state, the destination apart. -/
def kit (k : ℕ) : sProp 𝕄 :=
  iprop(dutyTok ER (cel c (k - 6)) 0 0 ∗ dutyTok ER (cel (xr c (msk k)) k) 0 0 ∗ reached ER (cel c (k - 6)) 0 ∗ atPos ER (cel c (k - 6)) 0 ∅ 0)
/-- A copy still to be sent, its destination in hand. -/
def tosend (k : ℕ) : sProp 𝕄 := iprop(kit c k ∗ hole (xr c (msk k)) k)
/-- An arrival still to be waited for. -/
def towait (k : ℕ) : sProp 𝕄 := iprop(atPos ER (cel c k) 0 ∅ 0 ∗ cred (tallyAt (cel c k) (lev k) (amt k)))
/-- A departure still to be waited for. -/
def flying (k : ℕ) : sProp 𝕄 := iprop(atPos ER (cel c k) 0 ∅ 0 ∗ cred (tallyAt (cel c k) 0 (amt k)))
/-- A cell past its one round. -/
def past (k : ℕ) : sProp 𝕄 := iprop(atPos ER (cel c k) (0 + 1) ∅ 0)
/-- What a device pays with in direction `d`: the token, and what the signal hands over. -/
def toring (d : Fin 3) : sProp 𝕄 :=
  iprop(dutyTok ER (barC (xr c (bits d))) 0 d ∗ reached ER (barC (xr c (bits d))) 0 ∗ barPay c d)

/-- The invariants of all cells. -/
def invs : sProp 𝕄 := iprop(∃ κ, fam.cellInvs ER (rd wq wo) κ)
instance invs_persistent : BI.Persistent (invs wq wo) := by unfold invs; infer_instance

/-- What does not change: the invariants and the levels. -/
def world : sProp 𝕄 := iprop(invs wq wo ∗ levAts (L 5) lv)
instance world_persistent : BI.Persistent (world wq wo) := by unfold world; infer_instance

/-- The state before the barrier: the signals still to be given, in order. -/
def Bar (ds : List (Fin 3)) : sProp 𝕄 :=
  iprop(world wq wo ∗ (∃ W, owes (c : Thread nD τ) (tallyL (ds.map (payB c) ++ ks.map (pay c))) W)
    ∗ (bigSepL ds (toring c)) ∗ atPos ER (barC c) 0 ∅ 0 ∗ cred (tallyAt (barC c) 1 3)
    ∗ (bigSepL ks (kit c)) ∗ bigSepL ws (towait c))

/-- The state after the barrier. -/
def St (todo rcv fl dn : List ℕ) : sProp 𝕄 :=
  iprop(world wq wo ∗ (∃ W, owes (c : Thread nD τ) (tallyL (todo.map (pay c))) W)
    ∗ (bigSepL todo (tosend c)) ∗ (bigSepL rcv (towait c)) ∗ (bigSepL fl (flying c)) ∗ (bigSepL dn (past c))
    ∗ atPos ER (barC c) (0 + 1) ∅ 0)

/-- The invariant of a cell of the copies. -/
theorem inv_cel {p : Dev nD} {k : ℕ} (hk : k ∈ own) : world wq wo ⊢ iprop(∃ κ, cellInv ER (rd wq wo) κ (cel p k)) := by
  unfold world invs
  iintro ⟨⟨%κ, #HI⟩, -⟩
  iexists _
  iapply (fam.cellInvs_dorm ER (rd wq wo) κ p (j := 0) (sm := dm k) (by
    show dm k ∈ (own.map dm).toFinset
    exact List.mem_toFinset.mpr (List.mem_map_of_mem hk)))
  iexact HI
/-- The invariant of a barrier cell. -/
theorem inv_bar (p : Dev nD) : world wq wo ⊢ iprop(∃ κ, cellInv ER (rd wq wo) κ (barC p)) := by
  unfold world invs
  iintro ⟨⟨%κ, #HI⟩, -⟩
  iexists _
  iapply (fam.cellInvs_bar ER (rd wq wo) κ p)
  iexact HI

/-- The numbers of the copies' semaphores. -/
theorem own_lt : ∀ k ∈ own, k < 42 ∧ 6 ≤ k := by decide
/-- Each copy has a receive and a send semaphore. -/
theorem ks_own : ∀ k ∈ ks, k ∈ own ∧ k - 6 ∈ own := by decide
/-- They count the same units. -/
theorem ks_amt : ∀ k ∈ ks, amt (k - 6) = amt k := by decide

/-- The tally of a list, one entry at a time. -/
theorem pays_tally (x : Pay nD τ sig) (l : List (Pay nD τ sig)) : tallyL (x :: l) = tallyL l + x.tally := add_comm _ _

/-- A barrier signal. -/
theorem signal_step [FloatOps F] {α : Type} {Q : α → sProp (MT nD τ sig ℕ (Elt F) ℕ UU ℕ)} (d : Fin 3) (ds : List (Fin 3)) {p : Dev nD} (hp : p = xr c (bits d)) {n : ℤ} (hn : n = 1)
    {k : PUnit → Prog (TpuEff nD τ sig (Elt F) Λ₀ .tc) α} :
    Bar wq wo c (d :: ds)
      ⊢ iprop((Bar wq wo c ds -∗ wp frame (wpE (defs₀ (F := F)) 𝒱₀ (c : Thread nD τ) none) Set.univ (k ⟨⟩) Q)
        -∗ wp frame (wpE (defs₀ (F := F)) 𝒱₀ (c : Thread nD τ) none) Set.univ (.op (.semSignal (p : Thread nD τ) barS n) k) Q) := by
  subst hp; subst hn
  unfold Bar
  rw [List.map_cons, List.cons_append, pays_tally, bigSepL_cons']
  unfold toring
  iintro ⟨#Hw, ⟨%W, HO⟩, ⟨⟨Ht, Hr, Hb⟩, Hds⟩, Hat, Hcr, Hks, Hws⟩ Hk
  ihave Hi := (inv_bar wq wo (xr c (bits d))) $$ Hw
  icases Hi with ⟨%κ, #Hi⟩
  iapply (Rounds.wp_signal 𝒱₀ ER (rd wq wo) (c : Thread nD τ) none (dst := (xr c (bits d) : Thread nD τ)) (sem := barS) (r := 0) (d := d) (κ := κ)
      (by rw [duties_bar]; revert d; decide) (amount_bar wq wo (xr c (bits d)) d) 1 (tallyL (ds.map (payB c) ++ ks.map (pay c))) rfl) $$ [HO Ht Hr Hb]
  · isplitr; · iexact Hi
    isplitl [HO]; · iexact HO
    isplitl [Ht]; · iexact Ht
    isplitl [Hb]
    · rw [payload_bar, xr_bits]; iexact Hb
    iexact Hr
  iintro HO
  iapply Hk
  isplitr; · iexact Hw
  isplitl [HO]; · iexists _; iexact HO
  isplitl [Hds]; · iexact Hds
  isplitl [Hat]; · iexact Hat
  isplitl [Hcr]; · iexact Hcr
  isplitl [Hks]; · iexact Hks
  iexact Hws

/-- May wait at level `i` owing a list of copies of higher levels. -/
theorem mayWait_list (sm : SemLoc sig) {i : ℕ} (hi : i < 5) (l : List ℕ) (hl : ∀ x ∈ l, i < lev x ∧ lev x < 5) :
    world wq wo ⊢ MayWait (c : Thread nD τ) sm i (tallyL (l.map (pay c))) := by
  unfold world
  iintro ⟨-, H⟩
  iapply (SiteBlocks.mayWait_of hi c sm (tallyL (l.map (pay c))) fun g j h => by
    obtain ⟨x, hx, rfl, rfl⟩ := TalkSites.tallyL_pos h
    obtain ⟨k, hk, rfl⟩ := List.mem_map.mp hx
    exact ⟨SiteBlocks.mem_L' rfl (hl k hk).2, (hl k hk).1⟩)
  iexact H

/-- The payload of a barrier round, and the copies to be sent get their destinations. -/
theorem rest_bar : (bigSep ((rd wq wo).duties (barC c) 0 \ ∅) fun d => (rd wq wo).payload (barC c) 0 d : sProp 𝕄)
    = iprop(barPay (xr c (bits 0)) 0 ∗ barPay (xr c (bits 1)) 1 ∗ barPay (xr c (bits 2)) 2) := by
  rw [Finset.sdiff_empty, duties_bar, bigSep_eq_bigSepL_of_eq [0, 1, 2] (by decide) (by decide)]
  rfl
/-- What a copy's semaphore still holds before it is waited for. -/
theorem rest_cel {k : ℕ} (hk : k ∈ own) : (bigSep ((rd wq wo).duties (cel c k) 0 \ ∅) fun d => (rd wq wo).payload (cel c k) 0 d : sProp 𝕄)
    = dmaPay wq wo c k := by
  rw [Finset.sdiff_empty, duties_cel wq wo c k (own_lt k hk).1 (own_lt k hk).2, bigSep_singleton, payload_cel wq wo c k (own_lt k hk).1]

/-- Two families over one list, member by member. -/
theorem zipL {I : Type} (l : List I) (Φ Ψ : I → sProp 𝕄) : iprop(bigSepL l Φ ∗ bigSepL l Ψ) ⊢ bigSepL l fun i => iprop(Φ i ∗ Ψ i) := by
  induction l with
  | nil => exact (equiv_iff.mp emp_sep).le
  | cons i l ih =>
    rw [bigSepL_cons', bigSepL_cons', bigSepL_cons']
    iintro ⟨⟨H1, H2⟩, H3, H4⟩
    isplitl [H1 H3]
    · isplitl [H1] <;> iassumption
    iapply ih
    isplitl [H2] <;> iassumption

/-- Every copy to be sent gets its destination. -/
theorem give_holes : iprop((bigSepL ks (kit c)) ∗ barPay (xr c (bits 0)) 0 ∗ barPay (xr c (bits 1)) 1 ∗ barPay (xr c (bits 2)) 2)
    ⊢ (bigSepL ks (tosend c) : sProp 𝕄) := by
  refine BIBase.Entails.trans (sep_mono_right (Q' := bigSepL ks fun k => hole (xr c (msk k)) k) ?_) (zipL ks _ _)
  unfold barPay
  show iprop((hole (xr c 1) 12 ∗ hole (xr c 1) 13 ∗ hole (xr c 1) 24 ∗ hole (xr c 1) 25 ∗ hole (xr c 1) 36 ∗ hole (xr c 1) 37)
    ∗ (hole (xr c 3) 14 ∗ hole (xr c 3) 15 ∗ hole (xr c 3) 26 ∗ hole (xr c 3) 27 ∗ hole (xr c 3) 38 ∗ hole (xr c 3) 39)
    ∗ (hole (xr c 4) 16 ∗ hole (xr c 4) 17 ∗ hole (xr c 4) 28 ∗ hole (xr c 4) 29 ∗ hole (xr c 4) 40 ∗ hole (xr c 4) 41))
    ⊢ iprop(hole (xr c 1) 12 ∗ hole (xr c 1) 13 ∗ hole (xr c 3) 14 ∗ hole (xr c 3) 15 ∗ hole (xr c 4) 16 ∗ hole (xr c 4) 17
      ∗ hole (xr c 1) 24 ∗ hole (xr c 3) 26 ∗ hole (xr c 4) 28 ∗ hole (xr c 1) 25 ∗ hole (xr c 3) 27 ∗ hole (xr c 4) 29
      ∗ hole (xr c 1) 36 ∗ hole (xr c 3) 38 ∗ hole (xr c 4) 40 ∗ hole (xr c 1) 37 ∗ hole (xr c 3) 39 ∗ hole (xr c 4) 41)
  iintro ⟨⟨H12, H13, H24, H25, H36, H37⟩, ⟨H14, H15, H26, H27, H38, H39⟩, ⟨H16, H17, H28, H29, H40, H41⟩⟩
  isplitl [H12]; · iexact H12
  isplitl [H13]; · iexact H13
  isplitl [H14]; · iexact H14
  isplitl [H15]; · iexact H15
  isplitl [H16]; · iexact H16
  isplitl [H17]; · iexact H17
  isplitl [H24]; · iexact H24
  isplitl [H26]; · iexact H26
  isplitl [H28]; · iexact H28
  isplitl [H25]; · iexact H25
  isplitl [H27]; · iexact H27
  isplitl [H29]; · iexact H29
  isplitl [H36]; · iexact H36
  isplitl [H38]; · iexact H38
  isplitl [H40]; · iexact H40
  isplitl [H37]; · iexact H37
  isplitl [H39]; · iexact H39
  iexact H41

/-- The barrier wait: all destinations are in hand. -/
theorem barrier_step [FloatOps F] {α : Type} {Q : α → sProp (MT nD τ sig ℕ (Elt F) ℕ UU ℕ)} {n : ℤ} (hn : n = 3) {k : PUnit → Prog (TpuEff nD τ sig (Elt F) Λ₀ .tc) α} :
    Bar wq wo c []
      ⊢ iprop((St wq wo c ks ws [] [] -∗ wp frame (wpE (defs₀ (F := F)) 𝒱₀ (c : Thread nD τ) none) Set.univ (k ⟨⟩) Q)
        -∗ wp frame (wpE (defs₀ (F := F)) 𝒱₀ (c : Thread nD τ) none) Set.univ (.op (.semWait barS n) k) Q) := by
  subst hn
  unfold Bar
  iintro ⟨#Hw, ⟨%W, HO⟩, -, Hat, Hcr, Hks, Hws⟩ Hk
  ihave Hi := (inv_bar wq wo c) $$ Hw
  icases Hi with ⟨%κ, #Hi⟩
  iapply (Rounds.wp_wait_rest_token 𝒱₀ ER (rd wq wo) (c : Thread nD τ) none (κ := κ)
      (wpE_semWait_eq 𝒱₀ (c : Thread nD τ) none Set.univ) (Set.mem_univ _) 1 (O := tallyL (ks.map (pay c))) (W := W) (R := 0) (m := 0) (T := ∅)
      ((Nat.zero_add 3).trans (expect_bar wq wo c).symm)) $$ [HO Hat Hcr]
  · isplitr; · iexact Hi
    isplitl [Hcr]; · iexact Hcr
    isplitl [HO]; · iexact HO
    isplitr
    · iapply (mayWait_list wq wo c (.reg barS) (i := 1) (by decide) ks (by decide)); iexact Hw
    iexact Hat
  iintro ⟨HO, Hat, -, Hpay⟩
  ihave Hp := (Entails.of_eq (rest_bar wq wo c)) $$ Hpay
  iapply Hk
  unfold St
  isplitr; · iexact Hw
  isplitl [HO]; · iexists _; iexact HO
  isplitl [Hks Hp]
  · iapply (give_holes c)
    isplitl [Hks]; · iexact Hks
    iexact Hp
  isplitl [Hws]; · iexact Hws
  isplitr; · rw [bigSepL_nil]; iempintro
  isplitr; · rw [bigSepL_nil]; iempintro
  iexact Hat

/-- A copy to the neighbour's receive cell `k`. -/
theorem send_step [FloatOps F] {α : Type} {Q : α → sProp (MT nD τ sig ℕ (Elt F) ℕ UU ℕ)} (k : ℕ) (hk : k ∈ ks) (todo rcv fl dn : List ℕ) {p : Dev nD} (hp : p = xr c (msk k))
    {sp sp' : Space} {s : Shape} {e : EltTy} {src : Memref sig .tc sp s e} {dst : Memref sig .tc sp' s e} {hsc : dst.view.ref.isScScratch = false}
    {sS sem : SemLoc sig} (hsS : sS = dm (k - 6)) (hsem : sem = dm k)
    {h1 : src.view.WordExact} {h2 : dst.view.WordExact} {h3 : DmaTarget.Typed (nD := nD) (τ := τ) sp sem (.remote (p : Thread nD τ) dst sS hsc)}
    {q : PosShare TreeShare} {fs : Buf (Elt F) (src.view.loc (c : Thread nD τ))}
    (hN : dst.view.amount sem = amt k)
    (hpay : (src.view.loc (c : Thread nD τ) ↦[src.view.set]{q} fs) ⊢ dmaPay wq wo c (k - 6))
    (hhole : (hole (xr c (msk k)) k : sProp 𝕄) = iprop((∃ f : Buf (Elt F) (dst.view.loc (xr c (msk k) : Thread nD τ)), (dst.view.loc (xr c (msk k) : Thread nD τ) ↦[dst.view.set]{fullShare} f)) ∗ reached ER (cel (xr c (msk k)) k) 0))
    (hland : ∀ fd : Buf (Elt F) (dst.view.loc (xr c (msk k) : Thread nD τ)),
      (dst.view.loc (xr c (msk k) : Thread nD τ) ↦[dst.view.set]{fullShare} (dst.view.write (Elt F) fd (src.view.read (Elt F) fs) Finset.univ))
        ⊢ dmaPay wq wo (xr c (msk k)) k)
    {kk : PUnit → Prog (TpuEff nD τ sig (Elt F) Λ₀ .tc) α} :
    iprop(St wq wo c (k :: todo) rcv fl dn ∗ (src.view.loc (c : Thread nD τ) ↦[src.view.set]{q} fs))
      ⊢ iprop((St wq wo c todo rcv (fl ++ [k - 6]) dn -∗ wp frame (wpE (defs₀ (F := F)) 𝒱₀ (c : Thread nD τ) none) Set.univ (kk ⟨⟩) Q)
        -∗ wp frame (wpE (defs₀ (F := F)) 𝒱₀ (c : Thread nD τ) none) Set.univ
            (.op (.enqueueDma src (.remote (p : Thread nD τ) dst sS hsc) sem h1 h2 h3) kk) Q) := by
  subst hp; subst hsS; subst hsem
  unfold St
  rw [List.map_cons, pays_tally, bigSepL_cons', bigSepL_append, bigSepL_singleton]
  unfold tosend kit
  iintro ⟨⟨#Hw, ⟨%W, HO⟩, ⟨⟨⟨Ht1, Ht2, #Hr1, Hat⟩, Hh⟩, Htodo⟩, Hrcv, Hfl, Hdn, Hb⟩, Hsrc⟩ Hk
  ihave Hh' := (Entails.of_eq hhole) $$ Hh
  icases Hh' with ⟨⟨%fd, Hdst⟩, Hr2⟩
  ihave Hi1 := (inv_cel wq wo (p := c) (ks_own k hk).2) $$ Hw
  icases Hi1 with ⟨%κ1, #Hi1⟩
  ihave Hi2 := (inv_cel wq wo (p := xr c (msk k)) (ks_own k hk).1) $$ Hw
  icases Hi2 with ⟨%κ2, #Hi2⟩
  iapply (Rounds.wp_send_pointsTo 𝒱₀ ER (rd wq wo) (c : Thread nD τ) none (c' := (xr c (msk k) : Thread nD τ)) (src := src) (dst := dst)
      (sS := dm (k - 6)) (sem := dm k) (q := q) (fs := fs) (κ₁ := κ1) (κ₂ := κ2)
      (r₁ := 0) (r₂ := 0) (d₁ := 0) (d₂ := 0) (fd := fd)
      (by rw [duties_cel wq wo c (k - 6) (own_lt _ (ks_own k hk).2).1 (own_lt _ (ks_own k hk).2).2]; exact Finset.mem_singleton_self _)
      (by rw [duties_cel wq wo _ k (own_lt _ (ks_own k hk).1).1 (own_lt _ (ks_own k hk).1).2]; exact Finset.mem_singleton_self _)
      (lev k) 0 (amt k) hN ((amount_cel wq wo c (k - 6) (own_lt _ (ks_own k hk).2).1 0).trans (ks_amt k hk)) (amount_cel wq wo _ k (own_lt _ (ks_own k hk).1).1 0)
      (tallyL (todo.map (pay c))) rfl (W := W)
      (by rw [payload_cel wq wo c (k - 6) (own_lt _ (ks_own k hk).2).1]; exact hpay)
      (by rw [payload_cel wq wo _ k (own_lt _ (ks_own k hk).1).1]; exact hland fd)) $$ [HO Ht1 Ht2 Hsrc Hdst Hr2]
  · isplitr; · iexact Hi1
    isplitr; · iexact Hi2
    isplitl [Hsrc]; · iexact Hsrc
    isplitl [Hdst]; · iexact Hdst
    isplitl [HO]; · iexact HO
    isplitl [Ht1]; · iexact Ht1
    isplitr; · iexact Hr1
    isplitl [Ht2]; · iexact Ht2
    iexact Hr2
  iintro ⟨Hcr, HO⟩
  iapply Hk
  isplitr; · iexact Hw
  isplitl [HO]; · iexists _; iexact HO
  isplitl [Htodo]; · iexact Htodo
  isplitl [Hrcv]; · iexact Hrcv
  isplitl [Hfl Hat Hcr]
  · isplitl [Hfl]; · iexact Hfl
    unfold flying
    isplitl [Hat]; · iexact Hat
    rw [ks_amt k hk]; iexact Hcr
  isplitl [Hdn]; · iexact Hdn
  iexact Hb

/-! ### The four kinds of copies -/

/-- A copy of the device's own block of query weights into slot `s` of the neighbour. -/
theorem send_ownQ [FloatOps F] {α : Type} {Q : α → sProp (MT nD τ sig ℕ (Elt F) ℕ UU ℕ)} (k : ℕ) (hk : k ∈ ks) {todo rcv fl dn : List ℕ}
    (s : ℕ) (h) (hq) {q : PosShare TreeShare} {p : Dev nD} (hp : p = xr c (msk k)) (hs : xr (xr c (msk k)) s = c)
    {hsc : (winQ s 0 512 h hq).view.ref.isScScratch = false} {sS sem : SemLoc sig} (hsS : sS = dm (k - 6)) (hsem : sem = dm k)
    {h1 : (Memref.whole refA1).view.WordExact} {h2 : (winQ s 0 512 h hq).view.WordExact}
    {h3 : DmaTarget.Typed (nD := nD) (τ := τ) .vmem sem (.remote (p : Thread nD τ) (winQ s 0 512 h hq) sS hsc)}
    (hN : (winQ s 0 512 h hq).view.amount sem = amt k)
    (hpay : (dmaPay wq wo c (k - 6) : sProp 𝕄) = ownQ c q (wq c))
    (hhole : (hole (xr c (msk k)) k : sProp 𝕄) = iprop((∃ f, ptsQ (xr c (msk k)) s 0 512 f h hq) ∗ reached ER (cel (xr c (msk k)) k) 0))
    (hpay' : (dmaPay wq wo (xr c (msk k)) k : sProp 𝕄) = ptsQ (xr c (msk k)) s 0 512 (WQ wq (xr c (msk k))) h hq)
    {kk : PUnit → Prog (TpuEff nD τ sig (Elt F) Λ₀ .tc) α} :
    St wq wo c (k :: todo) rcv fl dn
      ⊢ iprop(ownQ c q (wq c) -∗ (St wq wo c todo rcv (fl ++ [k - 6]) dn -∗ wp frame (wpE (defs₀ (F := F)) 𝒱₀ (c : Thread nD τ) none) Set.univ (kk ⟨⟩) Q)
        -∗ wp frame (wpE (defs₀ (F := F)) 𝒱₀ (c : Thread nD τ) none) Set.univ
            (.op (.enqueueDma (Memref.whole refA1) (.remote (p : Thread nD τ) (winQ s 0 512 h hq) sS hsc) sem h1 h2 h3) kk) Q) := by
  iintro HS H
  iapply (send_step wq wo c k hk todo rcv fl dn hp (src := (Memref.whole refA1)) (dst := (winQ s 0 512 h hq)) hsS hsem hN (Entails.of_eq hpay.symm) hhole
    (fun fd => Entails.of_eq ((landOwnQ wq hs h hq fd).trans hpay'.symm))) $$ [HS H]
  isplitl [HS]; · iexact HS
  iexact H

/-- A copy of the device's own block of output weights into slot `s` of the neighbour. -/
theorem send_ownO [FloatOps F] {α : Type} {Q : α → sProp (MT nD τ sig ℕ (Elt F) ℕ UU ℕ)} (k : ℕ) (hk : k ∈ ks) {todo rcv fl dn : List ℕ}
    (s : ℕ) (h) (hq) {q : PosShare TreeShare} {p : Dev nD} (hp : p = xr c (msk k)) (hs : xr (xr c (msk k)) s = c)
    {hsc : (winO s 0 256 h hq).view.ref.isScScratch = false} {sS sem : SemLoc sig} (hsS : sS = dm (k - 6)) (hsem : sem = dm k)
    {h1 : (Memref.whole refA4).view.WordExact} {h2 : (winO s 0 256 h hq).view.WordExact}
    {h3 : DmaTarget.Typed (nD := nD) (τ := τ) .vmem sem (.remote (p : Thread nD τ) (winO s 0 256 h hq) sS hsc)}
    (hN : (winO s 0 256 h hq).view.amount sem = amt k)
    (hpay : (dmaPay wq wo c (k - 6) : sProp 𝕄) = ownO c q (wo c))
    (hhole : (hole (xr c (msk k)) k : sProp 𝕄) = iprop((∃ f, ptsO (xr c (msk k)) s 0 256 f h hq) ∗ reached ER (cel (xr c (msk k)) k) 0))
    (hpay' : (dmaPay wq wo (xr c (msk k)) k : sProp 𝕄) = ptsO (xr c (msk k)) s 0 256 (WO wo (xr c (msk k))) h hq)
    {kk : PUnit → Prog (TpuEff nD τ sig (Elt F) Λ₀ .tc) α} :
    St wq wo c (k :: todo) rcv fl dn
      ⊢ iprop(ownO c q (wo c) -∗ (St wq wo c todo rcv (fl ++ [k - 6]) dn -∗ wp frame (wpE (defs₀ (F := F)) 𝒱₀ (c : Thread nD τ) none) Set.univ (kk ⟨⟩) Q)
        -∗ wp frame (wpE (defs₀ (F := F)) 𝒱₀ (c : Thread nD τ) none) Set.univ
            (.op (.enqueueDma (Memref.whole refA4) (.remote (p : Thread nD τ) (winO s 0 256 h hq) sS hsc) sem h1 h2 h3) kk) Q) := by
  iintro HS H
  iapply (send_step wq wo c k hk todo rcv fl dn hp (src := (Memref.whole refA4)) (dst := (winO s 0 256 h hq)) hsS hsem hN (Entails.of_eq hpay.symm) hhole
    (fun fd => Entails.of_eq ((landOwnO wo hs h hq fd).trans hpay'.symm))) $$ [HS H]
  isplitl [HS]; · iexact HS
  iexact H

/-- A copy of rows of slot `s` of the gathered query weights into the same rows of slot `s'` of the neighbour. -/
theorem send_slotQ [FloatOps F] {α : Type} {Q : α → sProp (MT nD τ sig ℕ (Elt F) ℕ UU ℕ)} (k : ℕ) (hk : k ∈ ks) {todo rcv fl dn : List ℕ}
    (s s' o n : ℕ) (h) (hq) (h') (hq') {q : PosShare TreeShare} {p : Dev nD} (hp : p = xr c (msk k)) (hs : xr (xr c (msk k)) s' = xr c s)
    {hsc : (winQ s' o n h hq).view.ref.isScScratch = false} {sS sem : SemLoc sig} (hsS : sS = dm (k - 6)) (hsem : sem = dm k)
    {h1 : (winQ s o n h' hq').view.WordExact} {h2 : (winQ s' o n h hq).view.WordExact}
    {h3 : DmaTarget.Typed (nD := nD) (τ := τ) .vmem sem (.remote (p : Thread nD τ) (winQ s' o n h hq) sS hsc)}
    (hN : (winQ s' o n h hq).view.amount sem = amt k)
    (hpay : (dmaPay wq wo c (k - 6) : sProp 𝕄) = ptsQAt c s o n q (WQ wq c) h' hq')
    (hhole : (hole (xr c (msk k)) k : sProp 𝕄) = iprop((∃ f, ptsQ (xr c (msk k)) s' o n f h hq) ∗ reached ER (cel (xr c (msk k)) k) 0))
    (hpay' : (dmaPay wq wo (xr c (msk k)) k : sProp 𝕄) = ptsQ (xr c (msk k)) s' o n (WQ wq (xr c (msk k))) h hq)
    {kk : PUnit → Prog (TpuEff nD τ sig (Elt F) Λ₀ .tc) α} :
    St wq wo c (k :: todo) rcv fl dn
      ⊢ iprop(ptsQAt c s o n q (WQ wq c) h' hq' -∗ (St wq wo c todo rcv (fl ++ [k - 6]) dn -∗ wp frame (wpE (defs₀ (F := F)) 𝒱₀ (c : Thread nD τ) none) Set.univ (kk ⟨⟩) Q)
        -∗ wp frame (wpE (defs₀ (F := F)) 𝒱₀ (c : Thread nD τ) none) Set.univ
            (.op (.enqueueDma (winQ s o n h' hq') (.remote (p : Thread nD τ) (winQ s' o n h hq) sS hsc) sem h1 h2 h3) kk) Q) := by
  iintro HS H
  iapply (send_step wq wo c k hk todo rcv fl dn hp (src := (winQ s o n h' hq')) (dst := (winQ s' o n h hq)) hsS hsem hN (Entails.of_eq hpay.symm) hhole
    (fun fd => Entails.of_eq ((landQ wq hs h' hq' h hq fd).trans hpay'.symm))) $$ [HS H]
  isplitl [HS]; · iexact HS
  iexact H

/-- A copy of rows of slot `s` of the gathered output weights into the same rows of slot `s'` of the neighbour. -/
theorem send_slotO [FloatOps F] {α : Type} {Q : α → sProp (MT nD τ sig ℕ (Elt F) ℕ UU ℕ)} (k : ℕ) (hk : k ∈ ks) {todo rcv fl dn : List ℕ}
    (s s' o n : ℕ) (h) (hq) (h') (hq') {q : PosShare TreeShare} {p : Dev nD} (hp : p = xr c (msk k)) (hs : xr (xr c (msk k)) s' = xr c s)
    {hsc : (winO s' o n h hq).view.ref.isScScratch = false} {sS sem : SemLoc sig} (hsS : sS = dm (k - 6)) (hsem : sem = dm k)
    {h1 : (winO s o n h' hq').view.WordExact} {h2 : (winO s' o n h hq).view.WordExact}
    {h3 : DmaTarget.Typed (nD := nD) (τ := τ) .vmem sem (.remote (p : Thread nD τ) (winO s' o n h hq) sS hsc)}
    (hN : (winO s' o n h hq).view.amount sem = amt k)
    (hpay : (dmaPay wq wo c (k - 6) : sProp 𝕄) = ptsOAt c s o n q (WO wo c) h' hq')
    (hhole : (hole (xr c (msk k)) k : sProp 𝕄) = iprop((∃ f, ptsO (xr c (msk k)) s' o n f h hq) ∗ reached ER (cel (xr c (msk k)) k) 0))
    (hpay' : (dmaPay wq wo (xr c (msk k)) k : sProp 𝕄) = ptsO (xr c (msk k)) s' o n (WO wo (xr c (msk k))) h hq)
    {kk : PUnit → Prog (TpuEff nD τ sig (Elt F) Λ₀ .tc) α} :
    St wq wo c (k :: todo) rcv fl dn
      ⊢ iprop(ptsOAt c s o n q (WO wo c) h' hq' -∗ (St wq wo c todo rcv (fl ++ [k - 6]) dn -∗ wp frame (wpE (defs₀ (F := F)) 𝒱₀ (c : Thread nD τ) none) Set.univ (kk ⟨⟩) Q)
        -∗ wp frame (wpE (defs₀ (F := F)) 𝒱₀ (c : Thread nD τ) none) Set.univ
            (.op (.enqueueDma (winO s o n h' hq') (.remote (p : Thread nD τ) (winO s' o n h hq) sS hsc) sem h1 h2 h3) kk) Q) := by
  iintro HS H
  iapply (send_step wq wo c k hk todo rcv fl dn hp (src := (winO s o n h' hq')) (dst := (winO s' o n h hq)) hsS hsem hN (Entails.of_eq hpay.symm) hhole
    (fun fd => Entails.of_eq ((landO wo hs h' hq' h hq fd).trans hpay'.symm))) $$ [HS H]
  isplitl [HS]; · iexact HS
  iexact H

/-- The wait for the arrival at the receive cell `k`. -/
theorem arrive_step [FloatOps F] {α : Type} {Q : α → sProp (MT nD τ sig ℕ (Elt F) ℕ UU ℕ)} (k : ℕ) (hk : k ∈ own) (todo : List ℕ) {rcv fl dn : List ℕ} (hlev : lev k < 5) (hl : ∀ x ∈ todo, lev k < lev x ∧ lev x < 5)
    {P : sProp 𝕄} (hP : dmaPay wq wo c k ⊢ P)
    {w : TpuEff nD τ sig (Elt F) Λ₀ .tc PUnit} {sm : SemLoc sig} {k' : ℕ}
    (hw : ∀ K : PUnit → sProp 𝕄, wpE (defs₀ (F := F)) 𝒱₀ (c : Thread nD τ) none Set.univ w K = waitSpec (c : Thread nD τ) Set.univ sm k' K)
    (hsm : sm = dm k) (hk' : k' = amt k)
    {kk : PUnit → Prog (TpuEff nD τ sig (Elt F) Λ₀ .tc) α} :
    St wq wo c todo (k :: rcv) fl dn
      ⊢ iprop((iprop(St wq wo c todo rcv fl (dn ++ [k]) ∗ P) -∗ wp frame (wpE (defs₀ (F := F)) 𝒱₀ (c : Thread nD τ) none) Set.univ (kk ⟨⟩) Q)
        -∗ wp frame (wpE (defs₀ (F := F)) 𝒱₀ (c : Thread nD τ) none) Set.univ (.op w kk) Q) := by
  subst hsm; subst hk'
  unfold St
  rw [bigSepL_cons', bigSepL_append, bigSepL_singleton]
  unfold towait
  iintro ⟨#Hw, ⟨%W, HO⟩, Htodo, ⟨⟨Hat, Hcr⟩, Hrcv⟩, Hfl, Hdn, Hb⟩ Hk
  ihave Hi := (inv_cel wq wo (p := c) hk) $$ Hw
  icases Hi with ⟨%κ, #Hi⟩
  iapply (Rounds.wp_wait_rest_token 𝒱₀ ER (rd wq wo) (c : Thread nD τ) none (κ := κ)
      hw (Set.mem_univ _) (lev k) (O := tallyL (todo.map (pay c))) (W := W) (R := 0) (m := 0) (T := ∅)
      ((Nat.zero_add _).trans (expect_cel wq wo c k (own_lt k hk).1 (own_lt k hk).2).symm)) $$ [HO Hat Hcr]
  · isplitr; · iexact Hi
    isplitl [Hcr]; · iexact Hcr
    isplitl [HO]; · iexact HO
    isplitr
    · iapply (mayWait_list wq wo c (dm k) (i := lev k) hlev todo hl); iexact Hw
    iexact Hat
  iintro ⟨HO, Hat, -, Hpay⟩
  ihave Hp := (Entails.of_eq (rest_cel wq wo c hk)) $$ Hpay
  iapply Hk
  isplitr [Hp]
  · isplitr; · iexact Hw
    isplitl [HO]; · iexists _; iexact HO
    isplitl [Htodo]; · iexact Htodo
    isplitl [Hrcv]; · iexact Hrcv
    isplitl [Hfl]; · iexact Hfl
    isplitl [Hdn Hat]
    · isplitl [Hdn]; · iexact Hdn
      unfold past; iexact Hat
    iexact Hb
  iapply hP; iexact Hp

/-- The wait for the departure from the send cell `k`, when all is sent. -/
theorem depart_step [FloatOps F] {α : Type} {Q : α → sProp (MT nD τ sig ℕ (Elt F) ℕ UU ℕ)} (k : ℕ) (hk : k ∈ own) {rcv fl dn : List ℕ}
    {P : sProp 𝕄} (hP : dmaPay wq wo c k ⊢ P)
    {w : TpuEff nD τ sig (Elt F) Λ₀ .tc PUnit} {sm : SemLoc sig} {k' : ℕ}
    (hw : ∀ K : PUnit → sProp 𝕄, wpE (defs₀ (F := F)) 𝒱₀ (c : Thread nD τ) none Set.univ w K = waitSpec (c : Thread nD τ) Set.univ sm k' K)
    (hsm : sm = dm k) (hk' : k' = amt k)
    {kk : PUnit → Prog (TpuEff nD τ sig (Elt F) Λ₀ .tc) α} :
    St wq wo c [] rcv (k :: fl) dn
      ⊢ iprop((iprop(St wq wo c [] rcv fl (dn ++ [k]) ∗ P) -∗ wp frame (wpE (defs₀ (F := F)) 𝒱₀ (c : Thread nD τ) none) Set.univ (kk ⟨⟩) Q)
        -∗ wp frame (wpE (defs₀ (F := F)) 𝒱₀ (c : Thread nD τ) none) Set.univ (.op w kk) Q) := by
  subst hsm; subst hk'
  unfold St
  rw [bigSepL_cons', bigSepL_append, bigSepL_singleton]
  unfold flying
  iintro ⟨#Hw, ⟨%W, HO⟩, Htodo, Hrcv, ⟨⟨Hat, Hcr⟩, Hfl⟩, Hdn, Hb⟩ Hk
  ihave Hi := (inv_cel wq wo (p := c) hk) $$ Hw
  icases Hi with ⟨%κ, #Hi⟩
  iapply (Rounds.wp_wait_rest_token 𝒱₀ ER (rd wq wo) (c : Thread nD τ) none (κ := κ)
      hw (Set.mem_univ _) 0 (O := tallyL (([] : List ℕ).map (pay c))) (W := W) (R := 0) (m := 0) (T := ∅)
      ((Nat.zero_add _).trans (expect_cel wq wo c k (own_lt k hk).1 (own_lt k hk).2).symm)) $$ [HO Hat Hcr]
  · isplitr; · iexact Hi
    isplitl [Hcr]; · iexact Hcr
    isplitl [HO]; · iexact HO
    isplitr
    · iapply (mayWait_list wq wo c (dm k) (i := 0) (by decide) [] (by decide)); iexact Hw
    iexact Hat
  iintro ⟨HO, Hat, -, Hpay⟩
  ihave Hp := (Entails.of_eq (rest_cel wq wo c hk)) $$ Hpay
  iapply Hk
  isplitr [Hp]
  · isplitr; · iexact Hw
    isplitl [HO]; · iexists _; iexact HO
    isplitl [Htodo]; · iexact Htodo
    isplitl [Hrcv]; · iexact Hrcv
    isplitl [Hfl]; · iexact Hfl
    isplitl [Hdn Hat]
    · isplitl [Hdn]; · iexact Hdn
      unfold past; iexact Hat
    iexact Hb
  iapply hP; iexact Hp

end

end Cert.KernelIdeal.Own

end
-- ==== Proof.Start.lean ====
/-
  Into and out of the protocol: what a device holds when the kernel is entered, made into the state before the barrier; the state
  after the last wait, made into semaphores at zero.
-/
module

public import proofs.«01_k».proof.Proof.Steps
public import Idealize.ShloMosaic.Lib.Pipeline.TalkSched
public import Idealize.ShloMosaic.Lib.Rounds.Family

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL Fam credOf)
open Idealize.ShloMosaic.SiteBlocks (L lv)

variable {F : FTy → Type}

local notation "𝕄" => MT nD τ sig ℕ (Elt F) ℕ UU ℕ

/-- All that a device owes when the kernel starts. -/
abbrev dues (c : Dev nD) : List (Pay nD τ sig) := [0, 1, 2].map (payB c) ++ ks.map (pay c)

/-- What is owed to a device. -/
abbrev claims (c : Dev nD) : List (Pay nD τ sig) :=
  [(barC c, 1, 1), (barC c, 1, 1), (barC c, 1, 1)] ++ ws.map fun k => (cel c k, lev k, amt k)

/-- The devices a device exchanges with. -/
def near (c : Dev nD) : Finset (Dev nD) := {xr c (bits 0), xr c (bits 1), xr c (bits 2)}

/-- A semaphore of the kernel's own, by its place in the list of all. -/
abbrev osem (i : Fin 36) : SemLoc sig := dm (own.get i)

/-- Everything is owed by the same core. -/
theorem dues_tc : ∀ c : Dev nD, ∀ x ∈ dues c, x.1.1.2 = .tc := by
  intro c x hx
  rcases List.mem_append.mp hx with h | h
  · obtain ⟨d, -, rfl⟩ := List.mem_map.mp h; rfl
  · obtain ⟨d, -, rfl⟩ := List.mem_map.mp h; rfl

/-- What is owed and what is claimed agree. -/
theorem claims_perm : ∀ c : Dev nD, (credOf dues c).Perm (claims c) := by decide +kernel

/-- No token is listed twice. -/
theorem tok_nodup : ∀ c : Dev nD, (tokL c).Nodup := by decide +kernel

/-- No semaphore is listed twice. -/
theorem own_nodup : own.Nodup := by decide
/-- The semaphores listed are distinct. -/
theorem dm_nodup : (own.map dm).Nodup := by decide

/-- A sum of tallies does not depend on their order. -/
theorem tallyL_perm {l l' : List (Pay nD τ sig)} (h : l.Perm l') : tallyL l = tallyL l' := by
  induction h with
  | nil => rfl
  | cons x _ ih => rw [pays_tally, pays_tally, ih]
  | swap x y l => rw [pays_tally, pays_tally, pays_tally, pays_tally, add_assoc, add_assoc, add_comm (Pay.tally x)]
  | trans _ _ h1 h2 => exact h1.trans h2

/-- The credit a device has from launch: of its barrier cell, and of every arrival. -/
theorem creds (c : Dev nD) : (Pipeline.launchCred (fun d => tallyL (dues d)) c : sProp 𝕄)
    ⊢ iprop(cred (tallyAt (barC c) 1 3) ∗ bigSepL ws fun k => cred (tallyAt (cel c k) (lev k) (amt k))) := by
  rw [TalkSites.launchCred_tallyL dues dues_tc c, tallyL_perm (claims_perm c), TalkSites.cred_tallyL, bigSepL_append, bigSepL_map]
  refine sep_mono_left ?_
  rw [← TalkSites.cred_tallyL]
  refine Entails.of_eq (congrArg cred ?_)
  rw [pays_tally, pays_tally, pays_tally]
  show (0 + tallyAt (barC c) 1 1) + tallyAt (barC c) 1 1 + tallyAt (barC c) 1 1 = tallyAt (barC c) 1 3
  rw [zero_add, tallyAt_add, tallyAt_add]

/-- A family over the three directions, member by member. -/
theorem three (Φ : Fin 3 → sProp 𝕄) : bigSepL [0, 1, 2] Φ = iprop(Φ 0 ∗ Φ 1 ∗ Φ 2) := rfl
/-- A family over the receive cells, member by member. -/
theorem eighteen (Φ : ℕ → sProp 𝕄) : bigSepL ks Φ = iprop(Φ 12 ∗ Φ 13 ∗ Φ 14 ∗ Φ 15 ∗ Φ 16 ∗ Φ 17 ∗ Φ 24 ∗ Φ 26 ∗ Φ 28 ∗ Φ 25 ∗ Φ 27 ∗ Φ 29 ∗ Φ 36 ∗ Φ 38 ∗ Φ 40 ∗ Φ 37 ∗ Φ 39 ∗ Φ 41) := rfl

section
variable (wq : Dev nD → BlkQ F) (wo : Dev nD → BlkO F) (c : Dev nD)

/-- What a device holds of the protocol from launch to the kernel. -/
def Tk : sProp 𝕄 := iprop(Pipeline.launchCred (fun d => tallyL (dues d)) c ∗ fam.launched ER (rd wq wo) near c)

/-- What it holds of the protocol when its own cells are open, its landing slots apart. -/
def Xk : sProp 𝕄 :=
  iprop(world wq wo ∗ (bigSepL [0, 1, 2] fun d => iprop(dutyTok ER (barC (xr c (bits d))) 0 d ∗ reached ER (barC (xr c (bits d))) 0))
    ∗ atPos ER (barC c) 0 ∅ 0 ∗ cred (tallyAt (barC c) 1 3) ∗ (bigSepL ks (kit c)) ∗ (bigSepL ws (towait c))
    ∗ bigSepL ks fun k => reached ER (cel c k) 0)

/-- What it holds of the protocol after the kernel. -/
def Yk : sProp 𝕄 := fam.barPos ER (rd wq wo) c 1 ∅

/-- The kernel's own semaphores at zero, over the list of all. -/
theorem ownSems_eq : (Pipeline.ownSems0 osem c : sProp 𝕄) = bigSep own.toFinset fun k => semVal (cel c k) 0 := by
  rw [bigSep_eq_bigSepL_of_eq own rfl own_nodup]
  unfold Pipeline.ownSems0
  rw [bigSep_univ_eq_bigSepL (List.finRange 36) (by decide) (by decide)]
  rw [show bigSepL own (fun k => (semVal (cel c k) 0 : sProp 𝕄)) = bigSepL ((List.finRange 36).map own.get) fun k => semVal (cel c k) 0 from
    congrArg (fun l => bigSepL l _) (by decide), bigSepL_map]
  rfl

/-- The invariants of the kernel's own cells, all at once, beside a family over them. -/
theorem own_invs (κ : GSem nD τ sig → ℕ) (Φ : ℕ → sProp 𝕄) :
    iprop(fam.cellInvs ER (rd wq wo) κ ∗ bigSep own.toFinset Φ)
      ⊢ bigSep own.toFinset fun k => iprop(cellInv ER (rd wq wo) (κ (cel c k)) (cel c k) ∗ Φ k) :=
  bigSep_with_persistent (R := fam.cellInvs ER (rd wq wo) κ) fun k hk =>
    sep_mono (fam.cellInvs_dorm ER (rd wq wo) κ c (j := 0) (sm := dm k) (by
      show dm k ∈ (own.map dm).toFinset
      exact List.mem_toFinset.mpr (List.mem_map_of_mem (List.mem_toFinset.mp hk)))) .rfl

/-- Records that a cell has reached a round can be kept. -/
theorem unzip : (bigSepL own fun k => iprop(atPos ER (cel c k) 0 ∅ 0 ∗ reached ER (cel c k) 0) : sProp 𝕄)
    ⊢ iprop((bigSepL ks fun k => iprop(reached ER (cel c (k - 6)) 0 ∗ atPos ER (cel c (k - 6)) 0 ∅ 0))
      ∗ (bigSepL ws fun k => atPos ER (cel c k) 0 ∅ 0) ∗ bigSepL ks fun k => reached ER (cel c k) 0) := by
  rw [bigSepL_append]
  refine BI.sep_mono ?_ ?_
  · rw [show ss = ks.map (· - 6) from by decide, bigSepL_map]
    exact bigSepL_mono fun k _ => sep_comm.1
  · rw [← TalkSites.bigSepL_perm (l := ks) (l' := ws) (by decide) (by decide)]
    rw [← bigSep_eq_bigSepL_of_eq ks rfl (by decide), ← bigSep_eq_bigSepL_of_eq ks rfl (by decide), ← bigSep_eq_bigSepL_of_eq ks rfl (by decide), bigSep_sep']
    exact BI.Entails.refl _

/-- What rides with a device to the kernel, token by token. -/
theorem rides_eq : fam.rides ER (rd wq wo) c 0
    = iprop((∃ κ, fam.cellInvs ER (rd wq wo) κ) ∗ (bigSep own.toFinset fun k => openTok ER (cel c k))
      ∗ (bigSepL [0, 1, 2] fun d => dutyTok ER (barC (xr c (bits d))) 0 d)
      ∗ (bigSepL ks fun k => dutyTok ER (cel c (k - 6)) 0 0) ∗ bigSepL ks fun k => dutyTok ER (cel (xr c (msk k)) k) 0 0) := by
  have h1 : (bigSep (fam.dorm 0) fun sm => (openTok ER ((c.tc : Thread nD τ), sm) : sProp 𝕄)) = bigSep own.toFinset fun k => openTok ER (cel c k) := by
    rw [bigSep_eq_bigSepL_of_eq (S := fam.dorm 0) (own.map dm) rfl dm_nodup, bigSep_eq_bigSepL_of_eq own rfl own_nodup, bigSepL_map]
  have h2 : (bigSep (fam.toks c 0) fun x => (dutyTok ER x.1 x.2.1 x.2.2 : sProp 𝕄)) = iprop((bigSepL [0, 1, 2] fun d => dutyTok ER (barC (xr c (bits d))) 0 d)
      ∗ (bigSepL ks fun k => dutyTok ER (cel c (k - 6)) 0 0) ∗ bigSepL ks fun k => dutyTok ER (cel (xr c (msk k)) k) 0 0) := by
    rw [bigSep_eq_bigSepL_of_eq (S := fam.toks c 0) (tokL c) rfl (tok_nodup c), bigSepL_append, bigSepL_append]
    exact congrArg₂ BI.sep rfl (congrArg₂ BI.sep (bigSepL_map _ _ _) (bigSepL_map _ _ _))
  unfold Fam.rides
  rw [h1, h2]

/-- The kernel's own cells are opened. -/
theorem hopen : iprop(Tk wq wo c ∗ Pipeline.ownSems0 osem c ∗ levAts (L 5) lv) ⊢ (|={Set.univ}=> Xk wq wo c : sProp 𝕄) := by
  rw [ownSems_eq]
  unfold Tk Xk Fam.launched Fam.barPos
  rw [show (bigSep Finset.univ fun j : Fin 1 => fam.rides ER (rd wq wo) c j) = fam.rides ER (rd wq wo) c 0 from bigSep_univ_eq_bigSepL [0] (by decide) (by decide) _,
    rides_eq]
  iintro ⟨⟨Hcr, ⟨⟨%κ, #HI⟩, Hbar, Hnear⟩, -, Hop, Ht3, Hts, Htr⟩, Hsem, #Hlev⟩
  ihave Hc := (creds (F := F) c) $$ Hcr
  icases Hc with ⟨Hc3, Hcs⟩
  ihave Hio := (own_invs wq wo c κ fun k => openTok ER (cel c k)) $$ [Hop]
  · isplitr; · iexact HI
    iexact Hop
  imod (Rounds.cells_open ER (rd wq wo) own.toFinset (cel c) (fun k => κ (cel c k)) (Es := Set.univ) fun _ _ => Set.mem_univ _) $$ [Hio Hsem] with Hat
  · isplitl [Hio] <;> iassumption
  imodintro
  ihave Hat1 := (Entails.of_eq (bigSep_eq_bigSepL_of_eq own rfl own_nodup _)) $$ Hat
  ihave Hat2 := (unzip (F := F) c) $$ Hat1
  icases Hat2 with ⟨Hs, Hw, Hr⟩
  isplitr
  · unfold world invs
    isplitr
    · iexists κ; iexact HI
    iexact Hlev
  isplitl [Ht3 Hnear]
  · ihave Hn := (Entails.of_eq (bigSep_eq_bigSepL_of_eq (S := near c) [xr c (bits 0), xr c (bits 1), xr c (bits 2)] (by revert c; decide) (by revert c; decide)
      (fun n : Dev nD => (reached ER ((n.tc : Thread nD τ), fam.bar) 0 : sProp 𝕄)))) $$ Hnear
    iapply (zipL [0, 1, 2] (fun d : Fin 3 => (dutyTok ER (barC (xr c (bits d))) 0 d : sProp 𝕄)) fun d => reached ER (barC (xr c (bits d))) 0)
    isplitl [Ht3]; · iexact Ht3
    iexact Hn
  isplitl [Hbar]; · iexact Hbar
  isplitl [Hc3]; · iexact Hc3
  isplitl [Hts Htr Hs]
  · unfold kit
    iapply (zipL ks)
    isplitl [Hts]; · iexact Hts
    iapply (zipL ks)
    isplitl [Htr]; · iexact Htr
    iexact Hs
  isplitl [Hw Hcs]
  · unfold towait
    iapply (zipL ws)
    isplitl [Hw]; · iexact Hw
    iexact Hcs
  iexact Hr

/-! What a device hands over at the barrier is its landing slots, each with the news that its cell is open. -/
/-- What goes to the first neighbour. -/
theorem barPay_eq0 : (barPay c 0 : sProp 𝕄) = iprop(hole c 12 ∗ hole c 13 ∗ hole c 24 ∗ hole c 25 ∗ hole c 36 ∗ hole c 37) := rfl
/-- What goes to the second neighbour. -/
theorem barPay_eq1 : (barPay c 1 : sProp 𝕄) = iprop(hole c 14 ∗ hole c 15 ∗ hole c 26 ∗ hole c 27 ∗ hole c 38 ∗ hole c 39) := rfl
/-- What goes to the third neighbour. -/
theorem barPay_eq2 : (barPay c 2 : sProp 𝕄) = iprop(hole c 16 ∗ hole c 17 ∗ hole c 28 ∗ hole c 29 ∗ hole c 40 ∗ hole c 41) := rfl

/-- A slot of query weights as a place to be written. -/
theorem fillQ {k s o n : ℕ} {f : (refQ : Ref sig .tc).ty.Contents (Elt F)} {h hq}
    (e : (hole c k : sProp 𝕄) = iprop((∃ f, ptsQ c s o n f h hq) ∗ reached ER (cel c k) 0)) :
    iprop(ptsQ c s o n f h hq ∗ reached ER (cel c k) 0) ⊢ (hole c k : sProp 𝕄) := by
  rw [e]
  iintro ⟨H, Hr⟩
  isplitl [H]; · iexists f; iexact H
  iexact Hr
/-- A slot of output weights as a place to be written. -/
theorem fillO {k s o n : ℕ} {f : (refO : Ref sig .tc).ty.Contents (Elt F)} {h hq}
    (e : (hole c k : sProp 𝕄) = iprop((∃ f, ptsO c s o n f h hq) ∗ reached ER (cel c k) 0)) :
    iprop(ptsO c s o n f h hq ∗ reached ER (cel c k) 0) ⊢ (hole c k : sProp 𝕄) := by
  rw [e]
  iintro ⟨H, Hr⟩
  isplitl [H]; · iexists f; iexact H
  iexact Hr

/-- With its landing slots cut out of the scratches, the device is at the barrier. -/
theorem ready (f : (refQ : Ref sig .tc).ty.Contents (Elt F)) (g : (refO : Ref sig .tc).ty.Contents (Elt F)) (W : Waits sig ℕ) :
    iprop(Xk wq wo c ∗ owes (c : Thread nD τ) (tallyL (dues c)) W
        ∗ ((Memref.whole refQ).view.loc (c : Thread nD τ) ↦[(Memref.whole refQ).view.set]{fullShare} f)
        ∗ ((Memref.whole refO).view.loc (c : Thread nD τ) ↦[(Memref.whole refO).view.set]{fullShare} g))
      ⊢ (iprop(Bar wq wo c [0, 1, 2] ∗ (∃ f, ptsQ c 0 0 512 f) ∗ ∃ f, ptsO c 0 0 256 f) : sProp 𝕄) := by
  unfold Xk Bar toring
  iintro ⟨⟨#Hw, Ht, Hbar, Hc3, Hks, Hws, Hr⟩, HO, HQ, HP⟩
  ihave Ht' := (Entails.of_eq (three _)) $$ Ht
  icases Ht' with ⟨⟨Ht0, Hn0⟩, ⟨Ht1, Hn1⟩, Ht2, Hn2⟩
  ihave Hr' := (Entails.of_eq (eighteen _)) $$ Hr
  icases Hr' with ⟨#R12, #R13, #R14, #R15, #R16, #R17, #R24, #R26, #R28, #R25, #R27, #R29, #R36, #R38, #R40, #R37, #R39, #R41⟩
  ihave HQ' := (cutQ c f) $$ HQ
  ihave HP' := (cutO c g) $$ HP
  icases HQ' with ⟨Q0, Q1, Q2, Q3, Q4, Q5, Q6, Q7⟩
  icases HP' with ⟨P0, P1, P2, P3, P4, P5, P6, P7⟩
  ihave Q6' := (bandsQ c 6 fullShare f (by decide) (by decide) (by decide) (by decide) (by decide) (by decide) _ _).2 $$ Q6
  ihave P6' := (bandsO c 6 fullShare g (by decide) (by decide) (by decide) (by decide) (by decide) (by decide) _ _).2 $$ P6
  icases Q6' with ⟨Q6a, Q6b, Q6c⟩
  icases P6' with ⟨P6a, P6b, P6c⟩
  isplitr [Q0 P0]
  · isplitr; · iexact Hw
    isplitl [HO]; · iexists W; iexact HO
    isplitl [Ht0 Hn0 Ht1 Hn1 Ht2 Hn2 Q1 Q2 Q3 Q4 Q5 Q6a Q6b Q6c Q7 P1 P2 P3 P4 P5 P6a P6b P6c P7]
    · rw [bigSepL_cons', bigSepL_cons', bigSepL_singleton, barPay_eq0, barPay_eq1, barPay_eq2]
      isplitl [Ht0 Hn0 Q1 P1 Q5 P5 Q6a P6a]
      · isplitl [Ht0]; · iexact Ht0
        isplitl [Hn0]; · iexact Hn0
        isplitl [Q1]
        · iapply (fillQ c (k := 12) (s := 1) (o := 0) (n := 512) rfl)
          isplitl [Q1]; · iexact Q1
          iexact R12
        isplitl [P1]
        · iapply (fillO c (k := 13) (s := 1) (o := 0) (n := 256) rfl)
          isplitl [P1]; · iexact P1
          iexact R13
        isplitl [Q5]
        · iapply (fillQ c (k := 24) (s := 5) (o := 0) (n := 512) rfl)
          isplitl [Q5]; · iexact Q5
          iexact R24
        isplitl [P5]
        · iapply (fillO c (k := 25) (s := 5) (o := 0) (n := 256) rfl)
          isplitl [P5]; · iexact P5
          iexact R25
        isplitl [Q6a]
        · iapply (fillQ c (k := 36) (s := 6) (o := 0) (n := 176) rfl)
          isplitl [Q6a]; · iexact Q6a
          iexact R36
        iapply (fillO c (k := 37) (s := 6) (o := 0) (n := 88) rfl)
        isplitl [P6a]; · iexact P6a
        iexact R37
      isplitl [Ht1 Hn1 Q3 P3 Q2 P2 Q6b P6b]
      · isplitl [Ht1]; · iexact Ht1
        isplitl [Hn1]; · iexact Hn1
        isplitl [Q3]
        · iapply (fillQ c (k := 14) (s := 3) (o := 0) (n := 512) rfl)
          isplitl [Q3]; · iexact Q3
          iexact R14
        isplitl [P3]
        · iapply (fillO c (k := 15) (s := 3) (o := 0) (n := 256) rfl)
          isplitl [P3]; · iexact P3
          iexact R15
        isplitl [Q2]
        · iapply (fillQ c (k := 26) (s := 2) (o := 0) (n := 512) rfl)
          isplitl [Q2]; · iexact Q2
          iexact R26
        isplitl [P2]
        · iapply (fillO c (k := 27) (s := 2) (o := 0) (n := 256) rfl)
          isplitl [P2]; · iexact P2
          iexact R27
        isplitl [Q6b]
        · iapply (fillQ c (k := 38) (s := 6) (o := 176) (n := 176) rfl)
          isplitl [Q6b]; · iexact Q6b
          iexact R38
        iapply (fillO c (k := 39) (s := 6) (o := 88) (n := 88) rfl)
        isplitl [P6b]; · iexact P6b
        iexact R39
      isplitl [Ht2]; · iexact Ht2
      isplitl [Hn2]; · iexact Hn2
      isplitl [Q4]
      · iapply (fillQ c (k := 16) (s := 4) (o := 0) (n := 512) rfl)
        isplitl [Q4]; · iexact Q4
        iexact R16
      isplitl [P4]
      · iapply (fillO c (k := 17) (s := 4) (o := 0) (n := 256) rfl)
        isplitl [P4]; · iexact P4
        iexact R17
      isplitl [Q7]
      · iapply (fillQ c (k := 28) (s := 7) (o := 0) (n := 512) rfl)
        isplitl [Q7]; · iexact Q7
        iexact R28
      isplitl [P7]
      · iapply (fillO c (k := 29) (s := 7) (o := 0) (n := 256) rfl)
        isplitl [P7]; · iexact P7
        iexact R29
      isplitl [Q6c]
      · iapply (fillQ c (k := 40) (s := 6) (o := 352) (n := 160) rfl)
        isplitl [Q6c]; · iexact Q6c
        iexact R40
      iapply (fillO c (k := 41) (s := 6) (o := 176) (n := 80) rfl)
      isplitl [P6c]; · iexact P6c
      iexact R41
    isplitl [Hbar]; · iexact Hbar
    isplitl [Hc3]; · iexact Hc3
    isplitl [Hks]; · iexact Hks
    iexact Hws
  isplitl [Q0]; · iexists f; iexact Q0
  iexists g; iexact P0

/-- Past all its waits, the device has its semaphores back at zero. -/
theorem closing : St wq wo c [] [] [] (ws ++ ss)
    ⊢ (|={Set.univ}=> iprop(Pipeline.ownSems0 osem c ∗ Yk wq wo c ∗ ∃ W, owes (c : Thread nD τ) (0 : CellTallies nD τ sig ℕ) W) : sProp 𝕄) := by
  rw [ownSems_eq]
  unfold St world invs Yk Fam.barPos
  rw [TalkSites.bigSepL_perm (l := ws ++ ss) (l' := own) (by decide) (by decide), ← bigSep_eq_bigSepL_of_eq own rfl own_nodup]
  iintro ⟨⟨⟨%κ, #HI⟩, -⟩, HO, -, -, -, Hdn, Hb⟩
  ihave Hc := (own_invs wq wo c κ (past c)) $$ [Hdn]
  · isplitr; · iexact HI
    iexact Hdn
  imod (Rounds.cells_close ER (rd wq wo) own.toFinset (cel c) (fun k => κ (cel c k)) (Es := Set.univ) (fun _ _ => Set.mem_univ _)
    (fun _ _ => id) (fun _ => 1) (fun k _ => duties_later wq wo (cel c k))) $$ [Hc] with Hz
  · iexact Hc
  imodintro
  isplitl [Hz]; · iexact Hz
  isplitl [Hb]
  · isplitr
    · iexists κ; iexact HI
    isplitl [Hb]; · iexact Hb
    rw [bigSep_empty]; iempintro
  iexact HO

end

end Cert.KernelIdeal.Own
-- ==== Proof.Spec.lean ====
/-
  The values of one device's run: what each chunk contributes and what the result's buffer holds at the end.
-/
module

public import proofs.«01_k».proof.Proof.Steps
public import Idealize.ShloMosaic.Lib.Pipeline.FrameBody

@[expose] public section

noncomputable section

namespace Cert.KernelIdeal.Own

open Idealize.ShloMosaic Idealize.ShloMosaic.TcCoe
open Cert.KernelIdeal.Gen

variable {F : FTy → Type}

section
variable [FloatOps F] (wq : Dev nD → BlkQ F) (wo : Dev nD → BlkO F) (c : Dev nD) (x : (cc0_stg0_0 : Ref sig .tc).ty.Contents (Elt F))
   (kk : (cc0_stg2_0 : Ref sig .tc).ty.Contents (Elt F)) (vv : (cc0_stg3_0 : Ref sig .tc).ty.Contents (Elt F))

/-- Which keys a query row may see. -/
def mask : IVec S128x128 1 :=
  k0_pay4 k0_pay1 (iota .tc S128x128 32 [1] iota_S128x128_d1_w32) 64#32 k0_pay2 k0_pay3 1#32 0#1

/-- One batch row of the input. -/
def xRow (b : Fin 2) : Vec F S1x128x512 .f32 :=
  (Memref.whole cc0_stg0_0).view.readAt (Elt F) (Rect.unit (s := S2x128x512) ![b.val, 0, 0] S1x128x512.size (by revert b; decide)).toLoadRect x

/-- The keys of head `h` of the device that slot `m` stands for, one batch row. -/
def keysAt : Fin 2 → Fin 8 → Fin 4 → Vec F S1x1x64x128 .f32
  | 0, m, h => (Memref.whole cc0_stg2_0).view.readAt (Elt F) (Rect.unit (s := S32x2x64x128)
      (k0_off1 c (BitVec.ofNat 32 m.val) (BitVec.ofNat 32 h.val)) S1x1x64x128.size (k0_off1_inb c m h)).toLoadRect kk
  | 1, m, h => (Memref.whole cc0_stg2_0).view.readAt (Elt F) (Rect.unit (s := S32x2x64x128)
      (k0_off3 c (BitVec.ofNat 32 m.val) (BitVec.ofNat 32 h.val)) S1x1x64x128.size (k0_off3_inb c m h)).toLoadRect kk

/-- The values of head `h` of the device that slot `m` stands for, one batch row. -/
def valsAt : Fin 2 → Fin 8 → Fin 4 → Vec F S1x1x128x64 .f32
  | 0, m, h => (Memref.whole cc0_stg3_0).view.readAt (Elt F) (Rect.unit (s := S32x2x128x64)
      (k0_off2 c (BitVec.ofNat 32 m.val) (BitVec.ofNat 32 h.val)) S1x1x128x64.size (k0_off2_inb c m h)).toLoadRect vv
  | 1, m, h => (Memref.whole cc0_stg3_0).view.readAt (Elt F) (Rect.unit (s := S32x2x128x64)
      (k0_off4 c (BitVec.ofNat 32 m.val) (BitVec.ofNat 32 h.val)) S1x1x128x64.size (k0_off4_inb c m h)).toLoadRect vv

/-- A slot lies within the query weights' buffer. -/
theorem slotQ_in : ∀ m : Fin 7, ∀ a, (![m.val + 1, 0, 0] : Fin 3 → ℕ) a + S1x512x256.size a ≤ S8x512x256.size a := by decide
/-- A slot lies within the output weights' buffer. -/
theorem slotO_in : ∀ m : Fin 7, ∀ a, (![m.val + 1, 0, 0] : Fin 3 → ℕ) a + S1x256x512.size a ≤ S8x256x512.size a := by decide

/-- The query weights of slot `m`, widened; slot 0 is the device's own block. -/
def wqAt : Fin 8 → FVec F S512x256 .f32
  | 0 => k0_pay5 ((Memref.whole refA1).view.readAt (Elt F) (Rect.unit (s := S512x256) ![0, 0] S512x256.size (by decide)).toLoadRect (wq c))
  | ⟨m + 1, h⟩ => k0_pay19 ((Memref.whole refQ).view.readAt (Elt F) (Rect.unit (s := S8x512x256) ![m + 1, 0, 0] S1x512x256.size
      (slotQ_in ⟨m, by omega⟩)).toLoadRect (WQ wq c))

/-- The output weights of slot `m`, widened. -/
def woAt : Fin 8 → FVec F S256x512 .f32
  | 0 => k0_pay6 ((Memref.whole refA4).view.readAt (Elt F) (Rect.unit (s := S256x512) ![0, 0] S256x512.size (by decide)).toLoadRect (wo c))
  | ⟨m + 1, h⟩ => k0_pay65 ((Memref.whole refO).view.readAt (Elt F) (Rect.unit (s := S8x256x512) ![m + 1, 0, 0] S1x256x512.size
      (slotO_in ⟨m, by omega⟩)).toLoadRect (WO wo c))

/-- The softmax weights of one head: the exponentials of the masked scores over their row sums. -/
def weights (qh : FVec F S128x64 .f32) (kb : Vec F S1x1x64x128 .f32) : FVec F S128x128 .f32 :=
  let e : FVec F S128x128 .f32 := exp (select mask (matmul dot_S128x64_S64x128_S128x128_1_0_0_1_n_n none qh (shapeCast S64x128 kb shapeCasts_S1x1x64x128_S64x128)
    (constant S128x128 .f32 0x00000000#32)) (broadcast S128x128 (Scalar.ofBits .f32 0xCE6E6B28#32)))
  divf e (broadcastTo S128x128 (shapeCast S128x1 (multiReduction .add [1] S128 e 0x00000000#32 reduces_S128x128_S128 (.inl rfl) rfl)
    shapeCasts_S128_S128x1) broadcasts_S128x1_S128x128)

/-- One head's context. -/
def headOf (qh : FVec F S128x64 .f32) (kb : Vec F S1x1x64x128 .f32) (vb : Vec F S1x1x128x64 .f32) : FVec F S128x64 .f32 :=
  matmul dot_S128x128_S128x64_S128x64_1_0_0_1_n_n none (weights qh kb) (shapeCast S128x64 vb shapeCasts_S1x1x128x64_S128x64)
    (constant S128x64 .f32 0x00000000#32)

/-- The queries of one chunk. -/
def queries (b : Fin 2) (m : Fin 8) : FVec F S128x256 .f32 :=
  matmul dot_S128x512_S512x256_S128x256_1_0_0_1_n_n none (shapeCast S128x512 (xRow x b) shapeCasts_S1x128x512_S128x512) (wqAt wq c m)
    (constant S128x256 .f32 0x00000000#32)

/-- The context of one chunk: its four heads side by side. -/
def ctxOf (b : Fin 2) (m : Fin 8) : FVec F S128x256 .f32 :=
  concatenate S128x256 1 [⟨S128x64, headOf (extractStridedSlice S128x64 ![0, 0] (queries wq c x b m) slices_S128x256_o0_0_S128x64) (keysAt c kk b m 0) (valsAt c vv b m 0)⟩,
    ⟨S128x64, headOf (extractStridedSlice S128x64 ![0, 64] (queries wq c x b m) slices_S128x256_o0_64_S128x64) (keysAt c kk b m 1) (valsAt c vv b m 1)⟩,
    ⟨S128x64, headOf (extractStridedSlice S128x64 ![0, 128] (queries wq c x b m) slices_S128x256_o0_128_S128x64) (keysAt c kk b m 2) (valsAt c vv b m 2)⟩,
    ⟨S128x64, headOf (extractStridedSlice S128x64 ![0, 192] (queries wq c x b m) slices_S128x256_o0_192_S128x64) (keysAt c kk b m 3) (valsAt c vv b m 3)⟩]
    concatenates_S128x64_S128x64_S128x64_S128x64_S128x256_d1

/-- What the own chunk gives the result's row `b`. -/
def firstOut (b : Fin 2) : FVec F S1x128x512 .f32 :=
  shapeCast S1x128x512 (matmul dot_S128x256_S256x512_S128x512_1_0_0_1_n_n none (ctxOf wq c x kk vv b 0) (woAt wo c 0)
    (constant S128x512 .f32 0x00000000#32)) shapeCasts_S128x512_S1x128x512

/-- The row with the chunk of slot `m` added, its context read back from the buffer it was kept in. -/
def addOut (b : Fin 2) (prev : FVec F S1x128x512 .f32) (m : Fin 8) : FVec F S1x128x512 .f32 :=
  shapeCast S1x128x512 (addf (shapeCast S128x512 prev shapeCasts_S1x128x512_S128x512)
    (matmul dot_S128x256_S256x512_S128x512_1_0_0_1_n_n none
      (shapeCast S128x256 (shapeCast S1x1x128x256 (ctxOf wq c x kk vv b m) shapeCasts_S128x256_S1x1x128x256) shapeCasts_S1x1x128x256_S128x256)
      (woAt wo c m) (constant S128x512 .f32 0x00000000#32))) shapeCasts_S128x512_S1x128x512

/-- The slots in the order their chunks are added. -/
def order : List (Fin 8) := [4, 1, 3, 7, 5, 2, 6]

/-- Row `b` of the result. -/
def outRow (b : Fin 2) : FVec F S1x128x512 .f32 := order.foldl (addOut wq wo c x kk vv b) (firstOut wq wo c x kk vv b)

/-- Where row `b` lies in the result's buffer. -/
abbrev rowRect (b : Fin 2) : Rect S2x128x512 := Rect.unit (s := S2x128x512) ![b.val, 0, 0] S1x128x512.size (by revert b; decide)

/-- What the result's buffer holds at the end. -/
def outVal : (cc0_stg5_0 : Ref sig .tc).ty.Contents (Elt F) :=
  fun i => outRow wq wo c x kk vv (i 0) (fun | 0 => (0 : Fin 1) | 1 => (i 1 : Fin 128) | 2 => (i 2 : Fin 512))

/-- Contents that read back as the two rows are those. -/
theorem eq_outVal (f : (cc0_stg5_0 : Ref sig .tc).ty.Contents (Elt F))
    (h : ∀ b, (Memref.whole cc0_stg5_0).view.readAt (Elt F) (rowRect b).toLoadRect f = outRow wq wo c x kk vv b) : f = outVal wq wo c x kk vv := by
  funext i
  have h0 := congrFun (h (i 0)) (fun | 0 => (0 : Fin 1) | 1 => (i 1 : Fin 128) | 2 => (i 2 : Fin 512))
  refine Eq.trans ?_ h0
  show f i = f _
  congr 1
  funext a
  apply Fin.ext
  match a with
  | 0 => show (i 0).val = (i 0).val + 1 * 0; omega
  | 1 => show (i 1).val = 0 + 1 * (i 1).val; omega
  | 2 => show (i 2).val = 0 + 1 * (i 2).val; omega
end

section
variable {κ : Kind} {sp : Space} {s : Shape} {e : EltTy} {Val : EltTy → Type}

/-- A load of exactly one write's rectangle, the later writes clear of it, reads what was written. -/
theorem cov_hit [∀ e, Nonempty (Val e)] (v : View sig κ sp s e) (r : Rect s) (w : r.shape.Idx → Val e) (L : List (View.Piece Val s e)) :
    ∀ P : List (View.Piece Val s e), LoadRect.disjAll (P.map Sigma.fst) r.toLoadRect = true →
      v.readCov (P ++ ⟨r, w⟩ :: L) r.toLoadRect = w := by
  intro P h
  induction P with
  | nil => exact View.readCov_cons_toLoadRect v r w L
  | cons p P ih =>
    have hp := LoadRect.forall_not_mem_of_disjAll (p :: P) r.toLoadRect h
    refine Eq.trans ?_ (ih (by simp only [LoadRect.disjAll, List.map_cons, List.all_cons, Bool.and_eq_true] at h ⊢; exact h.2))
    rw [List.cons_append, View.readCov_eq_canon', View.readCov_eq_canon']
    exact funext fun j => View.canon_cons_of_not_mem p _ (hp j p (List.mem_cons_self ..))
end

end Cert.KernelIdeal.Own

end
-- ==== Proof.Run.lean ====
/-
  The run of the kernel's body on one device: the protocol statements by their steps, everything between them symbolically.
-/
module

public import proofs.«01_k».proof.Proof.Spec

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type}

local notation "𝕄" => MT nD τ sig ℕ (Elt F) ℕ UU ℕ

/-- A whole buffer of a device at the full share. -/
abbrev whole (c : Dev nD) (b : Ref sig .tc) (f : b.ty.Contents (Elt F)) : sProp 𝕄 :=
  (Memref.whole b).view.loc (c : Thread nD τ) ↦[(Memref.whole b).view.set]{fullShare} f

/-- The part of a slot that was not copied on, at the share the copy took of its part. -/
abbrev restQ (c : Dev nD) (s o n : ℕ) (f : (refQ : Ref sig .tc).ty.Contents (Elt F))
    (h : ∀ a, (![s, o, 0] : Fin 3 → ℕ) a + (![1, n, 256] : Fin 3 → ℕ) a ≤ S8x512x256.size a := by decide)
    (hq : (⟨3, ![1, n, 256]⟩ : Shape).Squeezes ⟨2, ![n, 256]⟩ := by decide)
    (h' : ∀ a, (![s, 0, 0] : Fin 3 → ℕ) a + (![1, 512, 256] : Fin 3 → ℕ) a ≤ S8x512x256.size a := by decide) : sProp 𝕄 :=
  (winQ s 0 512 h' sqQ).view.loc (c : Thread nD τ) ↦[(winQ s 0 512 h' sqQ).view.set \ (winQ s o n h hq).view.set]{fullShare.left} f
/-- The same of a slot of output weights. -/
abbrev restO (c : Dev nD) (s o n : ℕ) (f : (refO : Ref sig .tc).ty.Contents (Elt F))
    (h : ∀ a, (![s, o, 0] : Fin 3 → ℕ) a + (![1, n, 512] : Fin 3 → ℕ) a ≤ S8x256x512.size a := by decide)
    (hq : (⟨3, ![1, n, 512]⟩ : Shape).Squeezes ⟨2, ![n, 512]⟩ := by decide)
    (h' : ∀ a, (![s, 0, 0] : Fin 3 → ℕ) a + (![1, 256, 512] : Fin 3 → ℕ) a ≤ S8x256x512.size a := by decide) : sProp 𝕄 :=
  (winO s 0 256 h' sqO).view.loc (c : Thread nD τ) ↦[(winO s 0 256 h' sqO).view.set \ (winO s o n h hq).view.set]{fullShare.left} f

section
variable (wq : Dev nD → BlkQ F) (wo : Dev nD → BlkO F) (c : Dev nD)

/-- The state, its lists rewritten. -/
theorem St_re {todo rcv fl fl' dn dn' : List ℕ} (h1 : fl = fl') (h2 : dn = dn') :
    St wq wo c todo rcv fl dn ⊢ St wq wo c todo rcv fl' dn' := by
  subst h1 h2; exact .rfl

/-- The lent parts of the query scratch, given back, make it whole again. -/
theorem gatherQ (f : (refQ : Ref sig .tc).ty.Contents (Elt F)) :
    iprop(ptsQ c 0 0 512 f
      ∗ (dmaPay wq wo c 20 ∗ ptsQAt c 1 0 512 fullShare.right (WQ wq c))
      ∗ (dmaPay wq wo c 34 ∗ ptsQAt c 2 0 512 fullShare.right (WQ wq c) ∗ restQ c 2 352 160 (WQ wq c))
      ∗ (dmaPay wq wo c 22 ∗ ptsQAt c 3 0 512 fullShare.right (WQ wq c))
      ∗ (dmaPay wq wo c 18 ∗ ptsQAt c 4 0 512 fullShare.right (WQ wq c))
      ∗ (dmaPay wq wo c 32 ∗ ptsQAt c 5 0 512 fullShare.right (WQ wq c) ∗ restQ c 5 176 176 (WQ wq c))
      ∗ ptsQAt c 6 0 512 fullShare (WQ wq c)
      ∗ (dmaPay wq wo c 30 ∗ ptsQAt c 7 0 512 fullShare.right (WQ wq c) ∗ restQ c 7 0 176 (WQ wq c)))
    ⊢ (iprop(∃ g, whole c refQ g) : sProp 𝕄) := by
  iintro ⟨H0, H1, H2, H3, H4, H5, H6, H7⟩
  iapply (uncutQ c f (WQ wq c))
  isplitl [H0]; · iexact H0
  isplitl [H1]; · iapply unhalve; iexact H1
  isplitl [H2]; · iapply (unhalve_part (rowsQ_sub (s := 2) (o := 352) (n := 160) (by decide) (by decide) (by decide) (by decide))); iexact H2
  isplitl [H3]; · iapply unhalve; iexact H3
  isplitl [H4]; · iapply unhalve; iexact H4
  isplitl [H5]; · iapply (unhalve_part (rowsQ_sub (s := 5) (o := 176) (n := 176) (by decide) (by decide) (by decide) (by decide))); iexact H5
  isplitl [H6]; · iexact H6
  iapply (unhalve_part (rowsQ_sub (s := 7) (o := 0) (n := 176) (by decide) (by decide) (by decide) (by decide))); iexact H7
/-- The same for the output scratch. -/
theorem gatherO (f : (refO : Ref sig .tc).ty.Contents (Elt F)) :
    iprop(ptsO c 0 0 256 f
      ∗ (dmaPay wq wo c 21 ∗ ptsOAt c 1 0 256 fullShare.right (WO wo c))
      ∗ (dmaPay wq wo c 35 ∗ ptsOAt c 2 0 256 fullShare.right (WO wo c) ∗ restO c 2 176 80 (WO wo c))
      ∗ (dmaPay wq wo c 23 ∗ ptsOAt c 3 0 256 fullShare.right (WO wo c))
      ∗ (dmaPay wq wo c 19 ∗ ptsOAt c 4 0 256 fullShare.right (WO wo c))
      ∗ (dmaPay wq wo c 33 ∗ ptsOAt c 5 0 256 fullShare.right (WO wo c) ∗ restO c 5 88 88 (WO wo c))
      ∗ ptsOAt c 6 0 256 fullShare (WO wo c)
      ∗ (dmaPay wq wo c 31 ∗ ptsOAt c 7 0 256 fullShare.right (WO wo c) ∗ restO c 7 0 88 (WO wo c)))
    ⊢ (iprop(∃ g, whole c refO g) : sProp 𝕄) := by
  iintro ⟨H0, H1, H2, H3, H4, H5, H6, H7⟩
  iapply (uncutO c f (WO wo c))
  isplitl [H0]; · iexact H0
  isplitl [H1]; · iapply unhalve; iexact H1
  isplitl [H2]; · iapply (unhalve_part (rowsO_sub (s := 2) (o := 176) (n := 80) (by decide) (by decide) (by decide) (by decide))); iexact H2
  isplitl [H3]; · iapply unhalve; iexact H3
  isplitl [H4]; · iapply unhalve; iexact H4
  isplitl [H5]; · iapply (unhalve_part (rowsO_sub (s := 5) (o := 88) (n := 88) (by decide) (by decide) (by decide) (by decide))); iexact H5
  isplitl [H6]; · iexact H6
  iapply (unhalve_part (rowsO_sub (s := 7) (o := 0) (n := 88) (by decide) (by decide) (by decide) (by decide))); iexact H7
/-- The lent shares of the own blocks, given back, make the staging buffers whole again. -/
theorem gatherOwnQ : iprop(dmaPay wq wo c 6 ∗ dmaPay wq wo c 8 ∗ dmaPay wq wo c 10 ∗ ownQ c fullShare.right.right (wq c)) ⊢ (whole c refA1 (wq c) : sProp 𝕄) := unquarter
/-- The shares of the own output weights that the copies read, put together again. -/
theorem gatherOwnO : iprop(dmaPay wq wo c 7 ∗ dmaPay wq wo c 9 ∗ dmaPay wq wo c 11 ∗ ownO c fullShare.right.right (wo c)) ⊢ (whole c refA4 (wo c) : sProp 𝕄) := unquarter
end

section
variable [FloatOps F] (wq : Dev nD → BlkQ F) (wo : Dev nD → BlkO F) (c : Dev nD) (x : (cc0_stg0_0 : Ref sig .tc).ty.Contents (Elt F))
   (kk : (cc0_stg2_0 : Ref sig .tc).ty.Contents (Elt F)) (vv : (cc0_stg3_0 : Ref sig .tc).ty.Contents (Elt F))

/-- What the body needs beside its result, the scratches and the protocol: its operands' staging buffers. -/
def operands : sProp 𝕄 := iprop(whole c cc0_stg0_0 x ∗ whole c refA1 (wq c) ∗ whole c cc0_stg2_0 kk ∗ whole c cc0_stg3_0 vv ∗ whole c refA4 (wo c))

/-- What holds before the body. -/
def before : sProp 𝕄 :=
  iprop(Bar wq wo c [0, 1, 2] ∗ operands wq wo c x kk vv ∗ (∃ f, ptsQ c 0 0 512 f) ∗ (∃ f, ptsO c 0 0 256 f)
    ∗ (∃ f, whole c cc0_stg5_0 f) ∗ ∃ f, whole c cc0_scratch2 f)
/-- What holds after it. -/
def after : sProp 𝕄 :=
  iprop(St wq wo c [] [] [] (ws ++ ss) ∗ operands wq wo c x kk vv ∗ (∃ f, whole c refQ f) ∗ (∃ f, whole c refO f)
    ∗ whole c cc0_stg5_0 (outVal wq wo c x kk vv) ∗ ∃ f, whole c cc0_scratch2 f)
end

/-- The body on its staging buffers and scratches. -/
abbrev theBody [FloatOps F] : Prog (TpuEff nD τ sig (Elt F) Λ₀ .tc) PUnit :=
  cc0_body (F := F) (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_stg4_0) (Memref.isWhole_whole _) (Memref.whole cc0_stg5_0) (Memref.isWhole_whole _)
    (Memref.whole cc0_scratch0) (Memref.isWhole_whole _) (Memref.whole cc0_scratch1) (Memref.isWhole_whole _)
    (Memref.whole cc0_scratch2) (Memref.isWhole_whole _) cc0_scratch3 cc0_scratch4 cc0_scratch5 cc0_scratch6 cc0_scratch7 cc0_scratch8

/-- A load of the rectangle written last but for the others named reads what was written there. -/
theorem hR0 [FloatOps F] : ∀ (p0 w : Vec F S1x128x512 .f32) (L : List (View.Piece (Elt F) S2x128x512 .f32)),
    (Memref.whole cc0_stg5_0).view.readCov (⟨Rect.unit (s := S2x128x512) ![1, 0, 0] S1x128x512.size inb_S2x128x512_S1x128x512_1_0_0, p0⟩ :: ⟨Rect.unit (s := S2x128x512) ![0, 0, 0] S1x128x512.size inb_S2x128x512_S1x128x512_0_0_0, w⟩ :: L) (Rect.unit (s := S2x128x512) ![0, 0, 0] S1x128x512.size inb_S2x128x512_S1x128x512_0_0_0).toLoadRect = w := by
  intro p0 w L
  have h := cov_hit (Memref.whole cc0_stg5_0).view (Rect.unit (s := S2x128x512) ![0, 0, 0] S1x128x512.size inb_S2x128x512_S1x128x512_0_0_0) w L [⟨Rect.unit (s := S2x128x512) ![1, 0, 0] S1x128x512.size inb_S2x128x512_S1x128x512_1_0_0, p0⟩] (by simp only [List.map_cons, List.map_nil]; decide)
  exact h
/-- A load of the rectangle written last but for the others named reads what was written there. -/
theorem hR1 [FloatOps F] : ∀ (p0 w : Vec F S1x128x512 .f32) (L : List (View.Piece (Elt F) S2x128x512 .f32)),
    (Memref.whole cc0_stg5_0).view.readCov (⟨Rect.unit (s := S2x128x512) ![0, 0, 0] S1x128x512.size inb_S2x128x512_S1x128x512_0_0_0, p0⟩ :: ⟨Rect.unit (s := S2x128x512) ![1, 0, 0] S1x128x512.size inb_S2x128x512_S1x128x512_1_0_0, w⟩ :: L) (Rect.unit (s := S2x128x512) ![1, 0, 0] S1x128x512.size inb_S2x128x512_S1x128x512_1_0_0).toLoadRect = w := by
  intro p0 w L
  have h := cov_hit (Memref.whole cc0_stg5_0).view (Rect.unit (s := S2x128x512) ![1, 0, 0] S1x128x512.size inb_S2x128x512_S1x128x512_1_0_0) w L [⟨Rect.unit (s := S2x128x512) ![0, 0, 0] S1x128x512.size inb_S2x128x512_S1x128x512_0_0_0, p0⟩] (by simp only [List.map_cons, List.map_nil]; decide)
  exact h
/-- A load of the rectangle written last but for the others named reads what was written there. -/
theorem hC31 [FloatOps F] : ∀ (w : Vec F S1x1x128x256 .f32) (L : List (View.Piece (Elt F) S8x2x128x256 .f32)),
    (Memref.whole cc0_scratch2).view.readCov ( ⟨Rect.unit (s := S8x2x128x256) ![3, 1, 0, 0] S1x1x128x256.size inb_S8x2x128x256_S1x1x128x256_3_1_0_0, w⟩ :: L) (Rect.unit (s := S8x2x128x256) ![3, 1, 0, 0] S1x1x128x256.size inb_S8x2x128x256_S1x1x128x256_3_1_0_0).toLoadRect = w := by
  intro w L
  have h := cov_hit (Memref.whole cc0_scratch2).view (Rect.unit (s := S8x2x128x256) ![3, 1, 0, 0] S1x1x128x256.size inb_S8x2x128x256_S1x1x128x256_3_1_0_0) w L [] (by simp only [List.map_cons, List.map_nil]; decide)
  exact h
/-- A load of the rectangle written last but for the others named reads what was written there. -/
theorem hC30 [FloatOps F] : ∀ (p0 w : Vec F S1x1x128x256 .f32) (L : List (View.Piece (Elt F) S8x2x128x256 .f32)),
    (Memref.whole cc0_scratch2).view.readCov (⟨Rect.unit (s := S8x2x128x256) ![3, 1, 0, 0] S1x1x128x256.size inb_S8x2x128x256_S1x1x128x256_3_1_0_0, p0⟩ :: ⟨Rect.unit (s := S8x2x128x256) ![3, 0, 0, 0] S1x1x128x256.size inb_S8x2x128x256_S1x1x128x256_3_0_0_0, w⟩ :: L) (Rect.unit (s := S8x2x128x256) ![3, 0, 0, 0] S1x1x128x256.size inb_S8x2x128x256_S1x1x128x256_3_0_0_0).toLoadRect = w := by
  intro p0 w L
  have h := cov_hit (Memref.whole cc0_scratch2).view (Rect.unit (s := S8x2x128x256) ![3, 0, 0, 0] S1x1x128x256.size inb_S8x2x128x256_S1x1x128x256_3_0_0_0) w L [⟨Rect.unit (s := S8x2x128x256) ![3, 1, 0, 0] S1x1x128x256.size inb_S8x2x128x256_S1x1x128x256_3_1_0_0, p0⟩] (by simp only [List.map_cons, List.map_nil]; decide)
  exact h
/-- A load of the rectangle written last but for the others named reads what was written there. -/
theorem hC11 [FloatOps F] : ∀ (p0 p1 w : Vec F S1x1x128x256 .f32) (L : List (View.Piece (Elt F) S8x2x128x256 .f32)),
    (Memref.whole cc0_scratch2).view.readCov (⟨Rect.unit (s := S8x2x128x256) ![3, 1, 0, 0] S1x1x128x256.size inb_S8x2x128x256_S1x1x128x256_3_1_0_0, p0⟩ :: ⟨Rect.unit (s := S8x2x128x256) ![3, 0, 0, 0] S1x1x128x256.size inb_S8x2x128x256_S1x1x128x256_3_0_0_0, p1⟩ :: ⟨Rect.unit (s := S8x2x128x256) ![1, 1, 0, 0] S1x1x128x256.size inb_S8x2x128x256_S1x1x128x256_1_1_0_0, w⟩ :: L) (Rect.unit (s := S8x2x128x256) ![1, 1, 0, 0] S1x1x128x256.size inb_S8x2x128x256_S1x1x128x256_1_1_0_0).toLoadRect = w := by
  intro p0 p1 w L
  have h := cov_hit (Memref.whole cc0_scratch2).view (Rect.unit (s := S8x2x128x256) ![1, 1, 0, 0] S1x1x128x256.size inb_S8x2x128x256_S1x1x128x256_1_1_0_0) w L [⟨Rect.unit (s := S8x2x128x256) ![3, 1, 0, 0] S1x1x128x256.size inb_S8x2x128x256_S1x1x128x256_3_1_0_0, p0⟩, ⟨Rect.unit (s := S8x2x128x256) ![3, 0, 0, 0] S1x1x128x256.size inb_S8x2x128x256_S1x1x128x256_3_0_0_0, p1⟩] (by simp only [List.map_cons, List.map_nil]; decide)
  exact h
/-- A load of the rectangle written last but for the others named reads what was written there. -/
theorem hC10 [FloatOps F] : ∀ (p0 p1 p2 w : Vec F S1x1x128x256 .f32) (L : List (View.Piece (Elt F) S8x2x128x256 .f32)),
    (Memref.whole cc0_scratch2).view.readCov (⟨Rect.unit (s := S8x2x128x256) ![3, 1, 0, 0] S1x1x128x256.size inb_S8x2x128x256_S1x1x128x256_3_1_0_0, p0⟩ :: ⟨Rect.unit (s := S8x2x128x256) ![3, 0, 0, 0] S1x1x128x256.size inb_S8x2x128x256_S1x1x128x256_3_0_0_0, p1⟩ :: ⟨Rect.unit (s := S8x2x128x256) ![1, 1, 0, 0] S1x1x128x256.size inb_S8x2x128x256_S1x1x128x256_1_1_0_0, p2⟩ :: ⟨Rect.unit (s := S8x2x128x256) ![1, 0, 0, 0] S1x1x128x256.size inb_S8x2x128x256_S1x1x128x256_1_0_0_0, w⟩ :: L) (Rect.unit (s := S8x2x128x256) ![1, 0, 0, 0] S1x1x128x256.size inb_S8x2x128x256_S1x1x128x256_1_0_0_0).toLoadRect = w := by
  intro p0 p1 p2 w L
  have h := cov_hit (Memref.whole cc0_scratch2).view (Rect.unit (s := S8x2x128x256) ![1, 0, 0, 0] S1x1x128x256.size inb_S8x2x128x256_S1x1x128x256_1_0_0_0) w L [⟨Rect.unit (s := S8x2x128x256) ![3, 1, 0, 0] S1x1x128x256.size inb_S8x2x128x256_S1x1x128x256_3_1_0_0, p0⟩, ⟨Rect.unit (s := S8x2x128x256) ![3, 0, 0, 0] S1x1x128x256.size inb_S8x2x128x256_S1x1x128x256_3_0_0_0, p1⟩, ⟨Rect.unit (s := S8x2x128x256) ![1, 1, 0, 0] S1x1x128x256.size inb_S8x2x128x256_S1x1x128x256_1_1_0_0, p2⟩] (by simp only [List.map_cons, List.map_nil]; decide)
  exact h
/-- A load of the rectangle written last but for the others named reads what was written there. -/
theorem hC41 [FloatOps F] : ∀ (p0 p1 p2 p3 w : Vec F S1x1x128x256 .f32) (L : List (View.Piece (Elt F) S8x2x128x256 .f32)),
    (Memref.whole cc0_scratch2).view.readCov (⟨Rect.unit (s := S8x2x128x256) ![3, 1, 0, 0] S1x1x128x256.size inb_S8x2x128x256_S1x1x128x256_3_1_0_0, p0⟩ :: ⟨Rect.unit (s := S8x2x128x256) ![3, 0, 0, 0] S1x1x128x256.size inb_S8x2x128x256_S1x1x128x256_3_0_0_0, p1⟩ :: ⟨Rect.unit (s := S8x2x128x256) ![1, 1, 0, 0] S1x1x128x256.size inb_S8x2x128x256_S1x1x128x256_1_1_0_0, p2⟩ :: ⟨Rect.unit (s := S8x2x128x256) ![1, 0, 0, 0] S1x1x128x256.size inb_S8x2x128x256_S1x1x128x256_1_0_0_0, p3⟩ :: ⟨Rect.unit (s := S8x2x128x256) ![4, 1, 0, 0] S1x1x128x256.size inb_S8x2x128x256_S1x1x128x256_4_1_0_0, w⟩ :: L) (Rect.unit (s := S8x2x128x256) ![4, 1, 0, 0] S1x1x128x256.size inb_S8x2x128x256_S1x1x128x256_4_1_0_0).toLoadRect = w := by
  intro p0 p1 p2 p3 w L
  have h := cov_hit (Memref.whole cc0_scratch2).view (Rect.unit (s := S8x2x128x256) ![4, 1, 0, 0] S1x1x128x256.size inb_S8x2x128x256_S1x1x128x256_4_1_0_0) w L [⟨Rect.unit (s := S8x2x128x256) ![3, 1, 0, 0] S1x1x128x256.size inb_S8x2x128x256_S1x1x128x256_3_1_0_0, p0⟩, ⟨Rect.unit (s := S8x2x128x256) ![3, 0, 0, 0] S1x1x128x256.size inb_S8x2x128x256_S1x1x128x256_3_0_0_0, p1⟩, ⟨Rect.unit (s := S8x2x128x256) ![1, 1, 0, 0] S1x1x128x256.size inb_S8x2x128x256_S1x1x128x256_1_1_0_0, p2⟩, ⟨Rect.unit (s := S8x2x128x256) ![1, 0, 0, 0] S1x1x128x256.size inb_S8x2x128x256_S1x1x128x256_1_0_0_0, p3⟩] (by simp only [List.map_cons, List.map_nil]; decide)
  exact h
/-- A load of the rectangle written last but for the others named reads what was written there. -/
theorem hC40 [FloatOps F] : ∀ (p0 p1 p2 p3 p4 w : Vec F S1x1x128x256 .f32) (L : List (View.Piece (Elt F) S8x2x128x256 .f32)),
    (Memref.whole cc0_scratch2).view.readCov (⟨Rect.unit (s := S8x2x128x256) ![3, 1, 0, 0] S1x1x128x256.size inb_S8x2x128x256_S1x1x128x256_3_1_0_0, p0⟩ :: ⟨Rect.unit (s := S8x2x128x256) ![3, 0, 0, 0] S1x1x128x256.size inb_S8x2x128x256_S1x1x128x256_3_0_0_0, p1⟩ :: ⟨Rect.unit (s := S8x2x128x256) ![1, 1, 0, 0] S1x1x128x256.size inb_S8x2x128x256_S1x1x128x256_1_1_0_0, p2⟩ :: ⟨Rect.unit (s := S8x2x128x256) ![1, 0, 0, 0] S1x1x128x256.size inb_S8x2x128x256_S1x1x128x256_1_0_0_0, p3⟩ :: ⟨Rect.unit (s := S8x2x128x256) ![4, 1, 0, 0] S1x1x128x256.size inb_S8x2x128x256_S1x1x128x256_4_1_0_0, p4⟩ :: ⟨Rect.unit (s := S8x2x128x256) ![4, 0, 0, 0] S1x1x128x256.size inb_S8x2x128x256_S1x1x128x256_4_0_0_0, w⟩ :: L) (Rect.unit (s := S8x2x128x256) ![4, 0, 0, 0] S1x1x128x256.size inb_S8x2x128x256_S1x1x128x256_4_0_0_0).toLoadRect = w := by
  intro p0 p1 p2 p3 p4 w L
  have h := cov_hit (Memref.whole cc0_scratch2).view (Rect.unit (s := S8x2x128x256) ![4, 0, 0, 0] S1x1x128x256.size inb_S8x2x128x256_S1x1x128x256_4_0_0_0) w L [⟨Rect.unit (s := S8x2x128x256) ![3, 1, 0, 0] S1x1x128x256.size inb_S8x2x128x256_S1x1x128x256_3_1_0_0, p0⟩, ⟨Rect.unit (s := S8x2x128x256) ![3, 0, 0, 0] S1x1x128x256.size inb_S8x2x128x256_S1x1x128x256_3_0_0_0, p1⟩, ⟨Rect.unit (s := S8x2x128x256) ![1, 1, 0, 0] S1x1x128x256.size inb_S8x2x128x256_S1x1x128x256_1_1_0_0, p2⟩, ⟨Rect.unit (s := S8x2x128x256) ![1, 0, 0, 0] S1x1x128x256.size inb_S8x2x128x256_S1x1x128x256_1_0_0_0, p3⟩, ⟨Rect.unit (s := S8x2x128x256) ![4, 1, 0, 0] S1x1x128x256.size inb_S8x2x128x256_S1x1x128x256_4_1_0_0, p4⟩] (by simp only [List.map_cons, List.map_nil]; decide)
  exact h
/-- A load of the rectangle written last but for the others named reads what was written there. -/
theorem hC21 [FloatOps F] : ∀ (w : Vec F S1x1x128x256 .f32) (L : List (View.Piece (Elt F) S8x2x128x256 .f32)),
    (Memref.whole cc0_scratch2).view.readCov ( ⟨Rect.unit (s := S8x2x128x256) ![2, 1, 0, 0] S1x1x128x256.size inb_S8x2x128x256_S1x1x128x256_2_1_0_0, w⟩ :: L) (Rect.unit (s := S8x2x128x256) ![2, 1, 0, 0] S1x1x128x256.size inb_S8x2x128x256_S1x1x128x256_2_1_0_0).toLoadRect = w := by
  intro w L
  have h := cov_hit (Memref.whole cc0_scratch2).view (Rect.unit (s := S8x2x128x256) ![2, 1, 0, 0] S1x1x128x256.size inb_S8x2x128x256_S1x1x128x256_2_1_0_0) w L [] (by simp only [List.map_cons, List.map_nil]; decide)
  exact h
/-- A load of the rectangle written last but for the others named reads what was written there. -/
theorem hC20 [FloatOps F] : ∀ (p0 w : Vec F S1x1x128x256 .f32) (L : List (View.Piece (Elt F) S8x2x128x256 .f32)),
    (Memref.whole cc0_scratch2).view.readCov (⟨Rect.unit (s := S8x2x128x256) ![2, 1, 0, 0] S1x1x128x256.size inb_S8x2x128x256_S1x1x128x256_2_1_0_0, p0⟩ :: ⟨Rect.unit (s := S8x2x128x256) ![2, 0, 0, 0] S1x1x128x256.size inb_S8x2x128x256_S1x1x128x256_2_0_0_0, w⟩ :: L) (Rect.unit (s := S8x2x128x256) ![2, 0, 0, 0] S1x1x128x256.size inb_S8x2x128x256_S1x1x128x256_2_0_0_0).toLoadRect = w := by
  intro p0 w L
  have h := cov_hit (Memref.whole cc0_scratch2).view (Rect.unit (s := S8x2x128x256) ![2, 0, 0, 0] S1x1x128x256.size inb_S8x2x128x256_S1x1x128x256_2_0_0_0) w L [⟨Rect.unit (s := S8x2x128x256) ![2, 1, 0, 0] S1x1x128x256.size inb_S8x2x128x256_S1x1x128x256_2_1_0_0, p0⟩] (by simp only [List.map_cons, List.map_nil]; decide)
  exact h
/-- A load of the rectangle written last but for the others named reads what was written there. -/
theorem hC51 [FloatOps F] : ∀ (p0 p1 w : Vec F S1x1x128x256 .f32) (L : List (View.Piece (Elt F) S8x2x128x256 .f32)),
    (Memref.whole cc0_scratch2).view.readCov (⟨Rect.unit (s := S8x2x128x256) ![2, 1, 0, 0] S1x1x128x256.size inb_S8x2x128x256_S1x1x128x256_2_1_0_0, p0⟩ :: ⟨Rect.unit (s := S8x2x128x256) ![2, 0, 0, 0] S1x1x128x256.size inb_S8x2x128x256_S1x1x128x256_2_0_0_0, p1⟩ :: ⟨Rect.unit (s := S8x2x128x256) ![5, 1, 0, 0] S1x1x128x256.size inb_S8x2x128x256_S1x1x128x256_5_1_0_0, w⟩ :: L) (Rect.unit (s := S8x2x128x256) ![5, 1, 0, 0] S1x1x128x256.size inb_S8x2x128x256_S1x1x128x256_5_1_0_0).toLoadRect = w := by
  intro p0 p1 w L
  have h := cov_hit (Memref.whole cc0_scratch2).view (Rect.unit (s := S8x2x128x256) ![5, 1, 0, 0] S1x1x128x256.size inb_S8x2x128x256_S1x1x128x256_5_1_0_0) w L [⟨Rect.unit (s := S8x2x128x256) ![2, 1, 0, 0] S1x1x128x256.size inb_S8x2x128x256_S1x1x128x256_2_1_0_0, p0⟩, ⟨Rect.unit (s := S8x2x128x256) ![2, 0, 0, 0] S1x1x128x256.size inb_S8x2x128x256_S1x1x128x256_2_0_0_0, p1⟩] (by simp only [List.map_cons, List.map_nil]; decide)
  exact h
/-- A load of the rectangle written last but for the others named reads what was written there. -/
theorem hC50 [FloatOps F] : ∀ (p0 p1 p2 w : Vec F S1x1x128x256 .f32) (L : List (View.Piece (Elt F) S8x2x128x256 .f32)),
    (Memref.whole cc0_scratch2).view.readCov (⟨Rect.unit (s := S8x2x128x256) ![2, 1, 0, 0] S1x1x128x256.size inb_S8x2x128x256_S1x1x128x256_2_1_0_0, p0⟩ :: ⟨Rect.unit (s := S8x2x128x256) ![2, 0, 0, 0] S1x1x128x256.size inb_S8x2x128x256_S1x1x128x256_2_0_0_0, p1⟩ :: ⟨Rect.unit (s := S8x2x128x256) ![5, 1, 0, 0] S1x1x128x256.size inb_S8x2x128x256_S1x1x128x256_5_1_0_0, p2⟩ :: ⟨Rect.unit (s := S8x2x128x256) ![5, 0, 0, 0] S1x1x128x256.size inb_S8x2x128x256_S1x1x128x256_5_0_0_0, w⟩ :: L) (Rect.unit (s := S8x2x128x256) ![5, 0, 0, 0] S1x1x128x256.size inb_S8x2x128x256_S1x1x128x256_5_0_0_0).toLoadRect = w := by
  intro p0 p1 p2 w L
  have h := cov_hit (Memref.whole cc0_scratch2).view (Rect.unit (s := S8x2x128x256) ![5, 0, 0, 0] S1x1x128x256.size inb_S8x2x128x256_S1x1x128x256_5_0_0_0) w L [⟨Rect.unit (s := S8x2x128x256) ![2, 1, 0, 0] S1x1x128x256.size inb_S8x2x128x256_S1x1x128x256_2_1_0_0, p0⟩, ⟨Rect.unit (s := S8x2x128x256) ![2, 0, 0, 0] S1x1x128x256.size inb_S8x2x128x256_S1x1x128x256_2_0_0_0, p1⟩, ⟨Rect.unit (s := S8x2x128x256) ![5, 1, 0, 0] S1x1x128x256.size inb_S8x2x128x256_S1x1x128x256_5_1_0_0, p2⟩] (by simp only [List.map_cons, List.map_nil]; decide)
  exact h
/-- A load of the rectangle written last but for the others named reads what was written there. -/
theorem hC71 [FloatOps F] : ∀ (p0 p1 p2 p3 w : Vec F S1x1x128x256 .f32) (L : List (View.Piece (Elt F) S8x2x128x256 .f32)),
    (Memref.whole cc0_scratch2).view.readCov (⟨Rect.unit (s := S8x2x128x256) ![2, 1, 0, 0] S1x1x128x256.size inb_S8x2x128x256_S1x1x128x256_2_1_0_0, p0⟩ :: ⟨Rect.unit (s := S8x2x128x256) ![2, 0, 0, 0] S1x1x128x256.size inb_S8x2x128x256_S1x1x128x256_2_0_0_0, p1⟩ :: ⟨Rect.unit (s := S8x2x128x256) ![5, 1, 0, 0] S1x1x128x256.size inb_S8x2x128x256_S1x1x128x256_5_1_0_0, p2⟩ :: ⟨Rect.unit (s := S8x2x128x256) ![5, 0, 0, 0] S1x1x128x256.size inb_S8x2x128x256_S1x1x128x256_5_0_0_0, p3⟩ :: ⟨Rect.unit (s := S8x2x128x256) ![7, 1, 0, 0] S1x1x128x256.size inb_S8x2x128x256_S1x1x128x256_7_1_0_0, w⟩ :: L) (Rect.unit (s := S8x2x128x256) ![7, 1, 0, 0] S1x1x128x256.size inb_S8x2x128x256_S1x1x128x256_7_1_0_0).toLoadRect = w := by
  intro p0 p1 p2 p3 w L
  have h := cov_hit (Memref.whole cc0_scratch2).view (Rect.unit (s := S8x2x128x256) ![7, 1, 0, 0] S1x1x128x256.size inb_S8x2x128x256_S1x1x128x256_7_1_0_0) w L [⟨Rect.unit (s := S8x2x128x256) ![2, 1, 0, 0] S1x1x128x256.size inb_S8x2x128x256_S1x1x128x256_2_1_0_0, p0⟩, ⟨Rect.unit (s := S8x2x128x256) ![2, 0, 0, 0] S1x1x128x256.size inb_S8x2x128x256_S1x1x128x256_2_0_0_0, p1⟩, ⟨Rect.unit (s := S8x2x128x256) ![5, 1, 0, 0] S1x1x128x256.size inb_S8x2x128x256_S1x1x128x256_5_1_0_0, p2⟩, ⟨Rect.unit (s := S8x2x128x256) ![5, 0, 0, 0] S1x1x128x256.size inb_S8x2x128x256_S1x1x128x256_5_0_0_0, p3⟩] (by simp only [List.map_cons, List.map_nil]; decide)
  exact h
/-- A load of the rectangle written last but for the others named reads what was written there. -/
theorem hC70 [FloatOps F] : ∀ (p0 p1 p2 p3 p4 w : Vec F S1x1x128x256 .f32) (L : List (View.Piece (Elt F) S8x2x128x256 .f32)),
    (Memref.whole cc0_scratch2).view.readCov (⟨Rect.unit (s := S8x2x128x256) ![2, 1, 0, 0] S1x1x128x256.size inb_S8x2x128x256_S1x1x128x256_2_1_0_0, p0⟩ :: ⟨Rect.unit (s := S8x2x128x256) ![2, 0, 0, 0] S1x1x128x256.size inb_S8x2x128x256_S1x1x128x256_2_0_0_0, p1⟩ :: ⟨Rect.unit (s := S8x2x128x256) ![5, 1, 0, 0] S1x1x128x256.size inb_S8x2x128x256_S1x1x128x256_5_1_0_0, p2⟩ :: ⟨Rect.unit (s := S8x2x128x256) ![5, 0, 0, 0] S1x1x128x256.size inb_S8x2x128x256_S1x1x128x256_5_0_0_0, p3⟩ :: ⟨Rect.unit (s := S8x2x128x256) ![7, 1, 0, 0] S1x1x128x256.size inb_S8x2x128x256_S1x1x128x256_7_1_0_0, p4⟩ :: ⟨Rect.unit (s := S8x2x128x256) ![7, 0, 0, 0] S1x1x128x256.size inb_S8x2x128x256_S1x1x128x256_7_0_0_0, w⟩ :: L) (Rect.unit (s := S8x2x128x256) ![7, 0, 0, 0] S1x1x128x256.size inb_S8x2x128x256_S1x1x128x256_7_0_0_0).toLoadRect = w := by
  intro p0 p1 p2 p3 p4 w L
  have h := cov_hit (Memref.whole cc0_scratch2).view (Rect.unit (s := S8x2x128x256) ![7, 0, 0, 0] S1x1x128x256.size inb_S8x2x128x256_S1x1x128x256_7_0_0_0) w L [⟨Rect.unit (s := S8x2x128x256) ![2, 1, 0, 0] S1x1x128x256.size inb_S8x2x128x256_S1x1x128x256_2_1_0_0, p0⟩, ⟨Rect.unit (s := S8x2x128x256) ![2, 0, 0, 0] S1x1x128x256.size inb_S8x2x128x256_S1x1x128x256_2_0_0_0, p1⟩, ⟨Rect.unit (s := S8x2x128x256) ![5, 1, 0, 0] S1x1x128x256.size inb_S8x2x128x256_S1x1x128x256_5_1_0_0, p2⟩, ⟨Rect.unit (s := S8x2x128x256) ![5, 0, 0, 0] S1x1x128x256.size inb_S8x2x128x256_S1x1x128x256_5_0_0_0, p3⟩, ⟨Rect.unit (s := S8x2x128x256) ![7, 1, 0, 0] S1x1x128x256.size inb_S8x2x128x256_S1x1x128x256_7_1_0_0, p4⟩] (by simp only [List.map_cons, List.map_nil]; decide)
  exact h
/-- A load of the rectangle written last but for the others named reads what was written there. -/
theorem hC61 [FloatOps F] : ∀ (w : Vec F S1x1x128x256 .f32) (L : List (View.Piece (Elt F) S8x2x128x256 .f32)),
    (Memref.whole cc0_scratch2).view.readCov ( ⟨Rect.unit (s := S8x2x128x256) ![6, 1, 0, 0] S1x1x128x256.size inb_S8x2x128x256_S1x1x128x256_6_1_0_0, w⟩ :: L) (Rect.unit (s := S8x2x128x256) ![6, 1, 0, 0] S1x1x128x256.size inb_S8x2x128x256_S1x1x128x256_6_1_0_0).toLoadRect = w := by
  intro w L
  have h := cov_hit (Memref.whole cc0_scratch2).view (Rect.unit (s := S8x2x128x256) ![6, 1, 0, 0] S1x1x128x256.size inb_S8x2x128x256_S1x1x128x256_6_1_0_0) w L [] (by simp only [List.map_cons, List.map_nil]; decide)
  exact h
/-- A load of the rectangle written last but for the others named reads what was written there. -/
theorem hC60 [FloatOps F] : ∀ (p0 w : Vec F S1x1x128x256 .f32) (L : List (View.Piece (Elt F) S8x2x128x256 .f32)),
    (Memref.whole cc0_scratch2).view.readCov (⟨Rect.unit (s := S8x2x128x256) ![6, 1, 0, 0] S1x1x128x256.size inb_S8x2x128x256_S1x1x128x256_6_1_0_0, p0⟩ :: ⟨Rect.unit (s := S8x2x128x256) ![6, 0, 0, 0] S1x1x128x256.size inb_S8x2x128x256_S1x1x128x256_6_0_0_0, w⟩ :: L) (Rect.unit (s := S8x2x128x256) ![6, 0, 0, 0] S1x1x128x256.size inb_S8x2x128x256_S1x1x128x256_6_0_0_0).toLoadRect = w := by
  intro p0 w L
  have h := cov_hit (Memref.whole cc0_scratch2).view (Rect.unit (s := S8x2x128x256) ![6, 0, 0, 0] S1x1x128x256.size inb_S8x2x128x256_S1x1x128x256_6_0_0_0) w L [⟨Rect.unit (s := S8x2x128x256) ![6, 1, 0, 0] S1x1x128x256.size inb_S8x2x128x256_S1x1x128x256_6_1_0_0, p0⟩] (by simp only [List.map_cons, List.map_nil]; decide)
  exact h

/-- The result's first row, read back from the buffer's writes. -/
theorem row0_end [FloatOps F] (f : (cc0_stg5_0 : Ref sig .tc).ty.Contents (Elt F)) (p0 w : Vec F S1x128x512 .f32) (L : List (View.Piece (Elt F) S2x128x512 .f32)) :
    (Memref.whole cc0_stg5_0).view.readAt (Elt F) (rowRect 0).toLoadRect ((Memref.whole cc0_stg5_0).view.writes (Elt F) f
      (⟨Rect.unit (s := S2x128x512) ![1, 0, 0] S1x128x512.size inb_S2x128x512_S1x128x512_1_0_0, p0⟩ :: ⟨Rect.unit (s := S2x128x512) ![0, 0, 0] S1x128x512.size inb_S2x128x512_S1x128x512_0_0_0, w⟩ :: L)) = w :=
  (View.readAt_writes_of_cover (Memref.whole cc0_stg5_0).view f _ (rowRect 0).toLoadRect fun j =>
    ⟨_, List.mem_cons_of_mem _ (List.mem_cons_self ..), LoadRect.idx_mem_of_within (by dsimp only; decide) j⟩).trans (hR0 p0 w L)
/-- The result's second row, read back from the buffer's writes. -/
theorem row1_end [FloatOps F] (f : (cc0_stg5_0 : Ref sig .tc).ty.Contents (Elt F)) (w : Vec F S1x128x512 .f32) (L : List (View.Piece (Elt F) S2x128x512 .f32)) :
    (Memref.whole cc0_stg5_0).view.readAt (Elt F) (rowRect 1).toLoadRect ((Memref.whole cc0_stg5_0).view.writes (Elt F) f
      (⟨Rect.unit (s := S2x128x512) ![1, 0, 0] S1x128x512.size inb_S2x128x512_S1x128x512_1_0_0, w⟩ :: L)) = w :=
  (View.readAt_writes_of_cover (Memref.whole cc0_stg5_0).view f _ (rowRect 1).toLoadRect fun j =>
    ⟨_, List.mem_cons_self .., LoadRect.idx_mem_of_within (by dsimp only; decide) j⟩).trans (View.readCov_cons_toLoadRect _ _ _ _)

attribute [local irreducible] View.readCov in
set_option maxHeartbeats 4000000 in
/-- The body runs, from what holds before it to what holds after it. -/
theorem bodyRun [FloatOps F] (wq : Dev nD → BlkQ F) (wo : Dev nD → BlkO F) (c : Dev nD) (x : (cc0_stg0_0 : Ref sig .tc).ty.Contents (Elt F))
   (kk : (cc0_stg2_0 : Ref sig .tc).ty.Contents (Elt F)) (vv : (cc0_stg3_0 : Ref sig .tc).ty.Contents (Elt F)) (Kt : PUnit → sProp 𝕄) :
   iprop(before wq wo c x kk vv ∗ (after wq wo c x kk vv -∗ Kt ⟨⟩))
     ⊢ wp frame (wpE (defs₀ (F := F)) 𝒱₀ (c : Thread nD τ) none) Set.univ theBody Kt := by
  unfold theBody before operands
  iintro ⟨⟨HB, ⟨Hx, HQown, HK, HV, HOown⟩, ⟨%fq, HQz⟩, ⟨%fo, HOz⟩, ⟨%o, Ho⟩, ⟨%cx, Hcx⟩⟩, Hk⟩
  ihave HQown := quarters $$ HQown
  icases HQown with ⟨HQ0, HQ1, HQ2, HQ⟩
  ihave HOown := quarters $$ HOown
  icases HOown with ⟨HO0, HO1, HO2, HO⟩
  have hR0 := hR0 (F := F)
  have hR1 := hR1 (F := F)
  have hC31 := hC31 (F := F)
  have hC30 := hC30 (F := F)
  have hC11 := hC11 (F := F)
  have hC10 := hC10 (F := F)
  have hC41 := hC41 (F := F)
  have hC40 := hC40 (F := F)
  have hC21 := hC21 (F := F)
  have hC20 := hC20 (F := F)
  have hC51 := hC51 (F := F)
  have hC50 := hC50 (F := F)
  have hC71 := hC71 (F := F)
  have hC70 := hC70 (F := F)
  have hC61 := hC61 (F := F)
  have hC60 := hC60 (F := F)
  sl_exec
  iapply (signal_step wq wo c 0 [1, 2] (by revert c; decide) rfl) $$ HB
  iintro HB
  sl_exec
  iapply (signal_step wq wo c 1 [2] (by revert c; decide) rfl) $$ HB
  iintro HB
  sl_exec
  iapply (signal_step wq wo c 2 [] (by revert c; decide) rfl) $$ HB
  iintro HB
  sl_exec
  iapply (barrier_step wq wo c rfl) $$ HB
  iintro HS
  sl_exec
  iapply (send_ownQ wq wo c 12 (by decide) 1 (by decide) (by decide) (by revert c; decide) (xr_bits c 0) rfl rfl rfl rfl rfl rfl) $$ HS HQ0
  iintro HS
  sl_exec
  iapply (send_ownO wq wo c 13 (by decide) 1 (by decide) (by decide) (by revert c; decide) (xr_bits c 0) rfl rfl rfl rfl rfl rfl) $$ HS HO0
  iintro HS
  sl_exec
  iapply (send_ownQ wq wo c 14 (by decide) 3 (by decide) (by decide) (by revert c; decide) (xr_bits c 1) rfl rfl rfl rfl rfl rfl) $$ HS HQ1
  iintro HS
  sl_exec
  iapply (send_ownO wq wo c 15 (by decide) 3 (by decide) (by decide) (by revert c; decide) (xr_bits c 1) rfl rfl rfl rfl rfl rfl) $$ HS HO1
  iintro HS
  sl_exec
  iapply (send_ownQ wq wo c 16 (by decide) 4 (by decide) (by decide) (by revert c; decide) (xr_bits c 2) rfl rfl rfl rfl rfl rfl) $$ HS HQ2
  iintro HS
  sl_exec
  iapply (send_ownO wq wo c 17 (by decide) 4 (by decide) (by decide) (by revert c; decide) (xr_bits c 2) rfl rfl rfl rfl rfl rfl) $$ HS HO2
  iintro HS
  sl_exec
  iapply (arrive_step wq wo c 16 (by decide) [24, 26, 28, 25, 27, 29, 36, 38, 40, 37, 39, 41] (by decide) (by decide) halves (wpE_waitDma2_eq 𝒱₀ (c : Thread nD τ) none Set.univ) rfl rfl) $$ HS
  iintro ⟨HS, HQ4l, HQ4⟩
  sl_exec
  iapply (send_slotQ wq wo c 24 (by decide) 4 5 0 512 _ _ _ _ (by revert c; decide) (by revert c; decide) rfl rfl rfl rfl rfl rfl) $$ HS HQ4l
  iintro HS
  sl_exec
  iapply (arrive_step wq wo c 12 (by decide) [26, 28, 25, 27, 29, 36, 38, 40, 37, 39, 41] (by decide) (by decide) halves (wpE_waitDma2_eq 𝒱₀ (c : Thread nD τ) none Set.univ) rfl rfl) $$ HS
  iintro ⟨HS, HQ1l, HQ1⟩
  sl_exec
  iapply (send_slotQ wq wo c 26 (by decide) 1 2 0 512 _ _ _ _ (by revert c; decide) (by revert c; decide) rfl rfl rfl rfl rfl rfl) $$ HS HQ1l
  iintro HS
  sl_exec
  iapply (arrive_step wq wo c 14 (by decide) [28, 25, 27, 29, 36, 38, 40, 37, 39, 41] (by decide) (by decide) halves (wpE_waitDma2_eq 𝒱₀ (c : Thread nD τ) none Set.univ) rfl rfl) $$ HS
  iintro ⟨HS, HQ3l, HQ3⟩
  sl_exec
  iapply (send_slotQ wq wo c 28 (by decide) 3 7 0 512 _ _ _ _ (by revert c; decide) (by revert c; decide) rfl rfl rfl rfl rfl rfl) $$ HS HQ3l
  iintro HS
  sl_exec
  iapply (arrive_step wq wo c 17 (by decide) [25, 27, 29, 36, 38, 40, 37, 39, 41] (by decide) (by decide) halves (wpE_waitDma2_eq 𝒱₀ (c : Thread nD τ) none Set.univ) rfl rfl) $$ HS
  iintro ⟨HS, HO4l, HO4⟩
  sl_exec
  iapply (send_slotO wq wo c 25 (by decide) 4 5 0 256 _ _ _ _ (by revert c; decide) (by revert c; decide) rfl rfl rfl rfl rfl rfl) $$ HS HO4l
  iintro HS
  sl_exec
  iapply (arrive_step wq wo c 13 (by decide) [27, 29, 36, 38, 40, 37, 39, 41] (by decide) (by decide) halves (wpE_waitDma2_eq 𝒱₀ (c : Thread nD τ) none Set.univ) rfl rfl) $$ HS
  iintro ⟨HS, HO1l, HO1⟩
  sl_exec
  iapply (send_slotO wq wo c 27 (by decide) 1 2 0 256 _ _ _ _ (by revert c; decide) (by revert c; decide) rfl rfl rfl rfl rfl rfl) $$ HS HO1l
  iintro HS
  sl_exec
  iapply (arrive_step wq wo c 15 (by decide) [29, 36, 38, 40, 37, 39, 41] (by decide) (by decide) halves (wpE_waitDma2_eq 𝒱₀ (c : Thread nD τ) none Set.univ) rfl rfl) $$ HS
  iintro ⟨HS, HO3l, HO3⟩
  sl_exec
  iapply (send_slotO wq wo c 29 (by decide) 3 7 0 256 _ _ _ _ (by revert c; decide) (by revert c; decide) rfl rfl rfl rfl rfl rfl) $$ HS HO3l
  iintro HS
  sl_exec
  iapply (arrive_step wq wo c 28 (by decide) [36, 38, 40, 37, 39, 41] (by decide) (by decide) (halves_part (rowsQ_sub (s := 7) (o := 0) (n := 176) (by decide) (by decide) _ _)) (wpE_waitDma2_eq 𝒱₀ (c : Thread nD τ) none Set.univ) rfl rfl) $$ HS
  iintro ⟨HS, HQ7l, HQ7, HQ7r⟩
  sl_exec
  iapply (send_slotQ wq wo c 36 (by decide) 7 6 0 176 _ _ _ _ (by revert c; decide) (by revert c; decide) rfl rfl rfl rfl rfl rfl) $$ HS HQ7l
  iintro HS
  sl_exec
  iapply (arrive_step wq wo c 24 (by decide) [38, 40, 37, 39, 41] (by decide) (by decide) (halves_part (rowsQ_sub (s := 5) (o := 176) (n := 176) (by decide) (by decide) _ _)) (wpE_waitDma2_eq 𝒱₀ (c : Thread nD τ) none Set.univ) rfl rfl) $$ HS
  iintro ⟨HS, HQ5l, HQ5, HQ5r⟩
  sl_exec
  iapply (send_slotQ wq wo c 38 (by decide) 5 6 176 176 _ _ _ _ (by revert c; decide) (by revert c; decide) rfl rfl rfl rfl rfl rfl) $$ HS HQ5l
  iintro HS
  sl_exec
  iapply (arrive_step wq wo c 26 (by decide) [40, 37, 39, 41] (by decide) (by decide) (halves_part (rowsQ_sub (s := 2) (o := 352) (n := 160) (by decide) (by decide) _ _)) (wpE_waitDma2_eq 𝒱₀ (c : Thread nD τ) none Set.univ) rfl rfl) $$ HS
  iintro ⟨HS, HQ2l, HQ2, HQ2r⟩
  sl_exec
  iapply (send_slotQ wq wo c 40 (by decide) 2 6 352 160 _ _ _ _ (by revert c; decide) (by revert c; decide) rfl rfl rfl rfl rfl rfl) $$ HS HQ2l
  iintro HS
  sl_exec
  iapply (arrive_step wq wo c 29 (by decide) [37, 39, 41] (by decide) (by decide) (halves_part (rowsO_sub (s := 7) (o := 0) (n := 88) (by decide) (by decide) _ _)) (wpE_waitDma2_eq 𝒱₀ (c : Thread nD τ) none Set.univ) rfl rfl) $$ HS
  iintro ⟨HS, HO7l, HO7, HO7r⟩
  sl_exec
  iapply (send_slotO wq wo c 37 (by decide) 7 6 0 88 _ _ _ _ (by revert c; decide) (by revert c; decide) rfl rfl rfl rfl rfl rfl) $$ HS HO7l
  iintro HS
  sl_exec
  iapply (arrive_step wq wo c 25 (by decide) [39, 41] (by decide) (by decide) (halves_part (rowsO_sub (s := 5) (o := 88) (n := 88) (by decide) (by decide) _ _)) (wpE_waitDma2_eq 𝒱₀ (c : Thread nD τ) none Set.univ) rfl rfl) $$ HS
  iintro ⟨HS, HO5l, HO5, HO5r⟩
  sl_exec
  iapply (send_slotO wq wo c 39 (by decide) 5 6 88 88 _ _ _ _ (by revert c; decide) (by revert c; decide) rfl rfl rfl rfl rfl rfl) $$ HS HO5l
  iintro HS
  sl_exec
  iapply (arrive_step wq wo c 27 (by decide) [41] (by decide) (by decide) (halves_part (rowsO_sub (s := 2) (o := 176) (n := 80) (by decide) (by decide) _ _)) (wpE_waitDma2_eq 𝒱₀ (c : Thread nD τ) none Set.univ) rfl rfl) $$ HS
  iintro ⟨HS, HO2l, HO2, HO2r⟩
  sl_exec
  iapply (send_slotO wq wo c 41 (by decide) 2 6 176 80 _ _ _ _ (by revert c; decide) (by revert c; decide) rfl rfl rfl rfl rfl rfl) $$ HS HO2l
  iintro HS
  sl_exec
  iapply (arrive_step wq wo c 36 (by decide) [] (by decide) (by decide) (P := ptsQAt c 6 0 176 fullShare (WQ wq c) (by decide) (by decide)) .rfl (wpE_waitDma2_eq 𝒱₀ (c : Thread nD τ) none Set.univ) rfl rfl) $$ HS
  iintro ⟨HS, HQ6a⟩
  sl_exec
  iapply (arrive_step wq wo c 38 (by decide) [] (by decide) (by decide) (P := ptsQAt c 6 176 176 fullShare (WQ wq c) (by decide) (by decide)) .rfl (wpE_waitDma2_eq 𝒱₀ (c : Thread nD τ) none Set.univ) rfl rfl) $$ HS
  iintro ⟨HS, HQ6b⟩
  sl_exec
  iapply (arrive_step wq wo c 40 (by decide) [] (by decide) (by decide) (P := ptsQAt c 6 352 160 fullShare (WQ wq c) (by decide) (by decide)) .rfl (wpE_waitDma2_eq 𝒱₀ (c : Thread nD τ) none Set.univ) rfl rfl) $$ HS
  iintro ⟨HS, HQ6c⟩
  ihave HQ6 := (bandsQ c 6 fullShare (WQ wq c) _ _ _ _ _ _ (by decide) (by decide)).1 $$ [HQ6a HQ6b HQ6c]
  · isplitl [HQ6a]; · iexact HQ6a
    isplitl [HQ6b]; · iexact HQ6b
    iexact HQ6c
  sl_exec
  iapply (arrive_step wq wo c 37 (by decide) [] (by decide) (by decide) (P := ptsOAt c 6 0 88 fullShare (WO wo c) (by decide) (by decide)) .rfl (wpE_waitDma2_eq 𝒱₀ (c : Thread nD τ) none Set.univ) rfl rfl) $$ HS
  iintro ⟨HS, HO6a⟩
  sl_exec
  iapply (arrive_step wq wo c 39 (by decide) [] (by decide) (by decide) (P := ptsOAt c 6 88 88 fullShare (WO wo c) (by decide) (by decide)) .rfl (wpE_waitDma2_eq 𝒱₀ (c : Thread nD τ) none Set.univ) rfl rfl) $$ HS
  iintro ⟨HS, HO6b⟩
  sl_exec
  iapply (arrive_step wq wo c 41 (by decide) [] (by decide) (by decide) (P := ptsOAt c 6 176 80 fullShare (WO wo c) (by decide) (by decide)) .rfl (wpE_waitDma2_eq 𝒱₀ (c : Thread nD τ) none Set.univ) rfl rfl) $$ HS
  iintro ⟨HS, HO6c⟩
  ihave HO6 := (bandsO c 6 fullShare (WO wo c) _ _ _ _ _ _ (by decide) (by decide)).1 $$ [HO6a HO6b HO6c]
  · isplitl [HO6a]; · iexact HO6a
    isplitl [HO6b]; · iexact HO6b
    iexact HO6c
  sl_exec
  ihave HS := (St_re wq wo c (fl' := ss) (dn' := ws) (by rfl) (by rfl)) $$ HS
  iapply (depart_step wq wo c 6 (by decide) .rfl (wpE_waitDma2_eq 𝒱₀ (c : Thread nD τ) none Set.univ) rfl rfl) $$ HS
  iintro ⟨HS, HQown0⟩
  sl_exec
  iapply (depart_step wq wo c 7 (by decide) .rfl (wpE_waitDma2_eq 𝒱₀ (c : Thread nD τ) none Set.univ) rfl rfl) $$ HS
  iintro ⟨HS, HOown0⟩
  sl_exec
  iapply (depart_step wq wo c 8 (by decide) .rfl (wpE_waitDma2_eq 𝒱₀ (c : Thread nD τ) none Set.univ) rfl rfl) $$ HS
  iintro ⟨HS, HQown1⟩
  sl_exec
  iapply (depart_step wq wo c 9 (by decide) .rfl (wpE_waitDma2_eq 𝒱₀ (c : Thread nD τ) none Set.univ) rfl rfl) $$ HS
  iintro ⟨HS, HOown1⟩
  sl_exec
  iapply (depart_step wq wo c 10 (by decide) .rfl (wpE_waitDma2_eq 𝒱₀ (c : Thread nD τ) none Set.univ) rfl rfl) $$ HS
  iintro ⟨HS, HQown2⟩
  sl_exec
  iapply (depart_step wq wo c 11 (by decide) .rfl (wpE_waitDma2_eq 𝒱₀ (c : Thread nD τ) none Set.univ) rfl rfl) $$ HS
  iintro ⟨HS, HOown2⟩
  sl_exec
  iapply (depart_step wq wo c 18 (by decide) .rfl (wpE_waitDma2_eq 𝒱₀ (c : Thread nD τ) none Set.univ) rfl rfl) $$ HS
  iintro ⟨HS, HQ4l⟩
  sl_exec
  iapply (depart_step wq wo c 20 (by decide) .rfl (wpE_waitDma2_eq 𝒱₀ (c : Thread nD τ) none Set.univ) rfl rfl) $$ HS
  iintro ⟨HS, HQ1l⟩
  sl_exec
  iapply (depart_step wq wo c 22 (by decide) .rfl (wpE_waitDma2_eq 𝒱₀ (c : Thread nD τ) none Set.univ) rfl rfl) $$ HS
  iintro ⟨HS, HQ3l⟩
  sl_exec
  iapply (depart_step wq wo c 19 (by decide) .rfl (wpE_waitDma2_eq 𝒱₀ (c : Thread nD τ) none Set.univ) rfl rfl) $$ HS
  iintro ⟨HS, HO4l⟩
  sl_exec
  iapply (depart_step wq wo c 21 (by decide) .rfl (wpE_waitDma2_eq 𝒱₀ (c : Thread nD τ) none Set.univ) rfl rfl) $$ HS
  iintro ⟨HS, HO1l⟩
  sl_exec
  iapply (depart_step wq wo c 23 (by decide) .rfl (wpE_waitDma2_eq 𝒱₀ (c : Thread nD τ) none Set.univ) rfl rfl) $$ HS
  iintro ⟨HS, HO3l⟩
  sl_exec
  iapply (depart_step wq wo c 30 (by decide) .rfl (wpE_waitDma2_eq 𝒱₀ (c : Thread nD τ) none Set.univ) rfl rfl) $$ HS
  iintro ⟨HS, HQ7l⟩
  sl_exec
  iapply (depart_step wq wo c 32 (by decide) .rfl (wpE_waitDma2_eq 𝒱₀ (c : Thread nD τ) none Set.univ) rfl rfl) $$ HS
  iintro ⟨HS, HQ5l⟩
  sl_exec
  iapply (depart_step wq wo c 34 (by decide) .rfl (wpE_waitDma2_eq 𝒱₀ (c : Thread nD τ) none Set.univ) rfl rfl) $$ HS
  iintro ⟨HS, HQ2l⟩
  sl_exec
  iapply (depart_step wq wo c 31 (by decide) .rfl (wpE_waitDma2_eq 𝒱₀ (c : Thread nD τ) none Set.univ) rfl rfl) $$ HS
  iintro ⟨HS, HO7l⟩
  sl_exec
  iapply (depart_step wq wo c 33 (by decide) .rfl (wpE_waitDma2_eq 𝒱₀ (c : Thread nD τ) none Set.univ) rfl rfl) $$ HS
  iintro ⟨HS, HO5l⟩
  sl_exec
  iapply (depart_step wq wo c 35 (by decide) .rfl (wpE_waitDma2_eq 𝒱₀ (c : Thread nD τ) none Set.univ) rfl rfl) $$ HS
  iintro ⟨HS, HO2l⟩
  sl_exec
  rw [wp_ret]
  imodintro
  iapply Hk
  unfold after operands
  isplitl [HS]; · iapply (St_re wq wo c (todo := []) (rcv := []) (fl := []) (dn' := ws ++ ss) (by rfl) (by rfl)) $$ HS
  isplitl [Hx HK HV HQ HQown0 HQown1 HQown2 HO HOown0 HOown1 HOown2]
  · isplitl [Hx]; · iexact Hx
    isplitl [HQ HQown0 HQown1 HQown2]
    · iapply (gatherOwnQ wq wo c)
      isplitl [HQown0]; · iexact HQown0
      isplitl [HQown1]; · iexact HQown1
      isplitl [HQown2]; · iexact HQown2
      iexact HQ
    isplitl [HK]; · iexact HK
    isplitl [HV]; · iexact HV
    iapply (gatherOwnO wq wo c)
    isplitl [HOown0]; · iexact HOown0
    isplitl [HOown1]; · iexact HOown1
    isplitl [HOown2]; · iexact HOown2
    iexact HO
  isplitl [HQz HQ1l HQ1 HQ2l HQ2 HQ2r HQ3l HQ3 HQ4l HQ4 HQ5l HQ5 HQ5r HQ6 HQ7l HQ7 HQ7r]
  · iapply (gatherQ wq wo c fq)
    isplitl [HQz]; · iexact HQz
    isplitl [HQ1l HQ1]
    · isplitl [HQ1l]; · iexact HQ1l
      iexact HQ1
    isplitl [HQ2l HQ2 HQ2r]
    · isplitl [HQ2l]; · iexact HQ2l
      isplitl [HQ2]; · iexact HQ2
      iexact HQ2r
    isplitl [HQ3l HQ3]
    · isplitl [HQ3l]; · iexact HQ3l
      iexact HQ3
    isplitl [HQ4l HQ4]
    · isplitl [HQ4l]; · iexact HQ4l
      iexact HQ4
    isplitl [HQ5l HQ5 HQ5r]
    · isplitl [HQ5l]; · iexact HQ5l
      isplitl [HQ5]; · iexact HQ5
      iexact HQ5r
    isplitl [HQ6]; · iexact HQ6
    isplitl [HQ7l]; · iexact HQ7l
    isplitl [HQ7]; · iexact HQ7
    iexact HQ7r
  isplitl [HOz HO1l HO1 HO2l HO2 HO2r HO3l HO3 HO4l HO4 HO5l HO5 HO5r HO6 HO7l HO7 HO7r]
  · iapply (gatherO wq wo c fo)
    isplitl [HOz]; · iexact HOz
    isplitl [HO1l HO1]
    · isplitl [HO1l]; · iexact HO1l
      iexact HO1
    isplitl [HO2l HO2 HO2r]
    · isplitl [HO2l]; · iexact HO2l
      isplitl [HO2]; · iexact HO2
      iexact HO2r
    isplitl [HO3l HO3]
    · isplitl [HO3l]; · iexact HO3l
      iexact HO3
    isplitl [HO4l HO4]
    · isplitl [HO4l]; · iexact HO4l
      iexact HO4
    isplitl [HO5l HO5 HO5r]
    · isplitl [HO5l]; · iexact HO5l
      isplitl [HO5]; · iexact HO5
      iexact HO5r
    isplitl [HO6]; · iexact HO6
    isplitl [HO7l]; · iexact HO7l
    isplitl [HO7]; · iexact HO7
    iexact HO7r
  isplitl [Ho]
  · rw [← eq_outVal wq wo c x kk vv _ (fun b => ?_)]
    · iexact Ho
    · match b with
      | 0 => exact (row0_end _ _ _ _).trans rfl
      | 1 => exact (row1_end _ _ _).trans rfl
  iexists _; iexact Hcx

end Cert.KernelIdeal.Own

end
-- ==== Proof.Launch.lean ====
/-
  The launch: the kernel's region entered from the host's operations and left with its result, and the whole program run on all the
  devices at once.
-/
module

public import proofs.«01_k».proof.Proof.Start
public import proofs.«01_k».proof.Proof.Run
public import Idealize.ShloMosaic.Lib.Pipeline.ValueKit

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL Fam)
open Idealize.ShloMosaic.SiteBlocks (L lv)
open Idealize.ShloMosaic.Pipeline (Dat BodyObligation)
open Cert.KernelIdeal.Gen

variable {F : FTy → Type} [FloatOps F]

local notation "𝕄" => MT nD τ sig ℕ (Elt F) ℕ UU ℕ

section
variable (m : (ℓ : Loc nD τ sig) → Buf (Elt F) ℓ)

/-! ## What each device's windows hold -/

/-- The block of the input. -/
def xIn (c : Dev nD) : (cc0_stg0_0 : Ref sig .tc).ty.Contents (Elt F) := (win0_0.blk t0_0).view.read (Elt F) (V1 m c main_arg0)
/-- The block of the query weights. -/
def wqIn (c : Dev nD) : BlkQ F := (win0_1.blk t0_0).view.read (Elt F) (V1 m c main_v19)
/-- The device's batch rows of the keys. -/
def kIn (c : Dev nD) : (cc0_stg2_0 : Ref sig .tc).ty.Contents (Elt F) := (win0_2.blk t0_0).view.read (Elt F) (V1 m c main_v15)
/-- The device's batch rows of the values. -/
def vIn (c : Dev nD) : (cc0_stg3_0 : Ref sig .tc).ty.Contents (Elt F) := (win0_3.blk t0_0).view.read (Elt F) (V1 m c main_v16)
/-- The block of the output weights. -/
def woIn (c : Dev nD) : BlkO F := (win0_4.blk t0_0).view.read (Elt F) (V1 m c main_v20)

/-- The result of a device. -/
def outIn (c : Dev nD) : (cc0_stg5_0 : Ref sig .tc).ty.Contents (Elt F) := outVal (wqIn m) (woIn m) c (xIn m c) (kIn m c) (vIn m c)

/-- The result left in its array. -/
def outs : Outs (F := F) := fun _ r => Function.update (β := fun r : Ref sig .tc => (c : Dev nD) → Buf (Elt F) ((c : Thread nD τ).loc r))
  (fun _ _ => Classical.arbitrary _) main_v21 (fun c => outIn m c) r

/-- The scratches, whole, at contents not chosen. -/
def scr (c : Dev nD) : sProp 𝕄 :=
  iprop((∃ f, whole c refQ f) ∗ (∃ f, whole c refO f) ∗ ∃ f, whole c cc0_scratch2 f)

/-- The kernel's region: it owes its dues before its one point, nothing after it. -/
def dat (c : Dev nD) : Dat τ (Elt F) ℕ ℕ UU ℕ cfg0 c where
  A w := V1 m c (Proc.devRef .tc (Pipeline.arrRef spec0 w))
  after w _ := match w with
    | ⟨0, _⟩ => xIn m c
    | ⟨1, _⟩ => wqIn m c
    | ⟨2, _⟩ => kIn m c
    | ⟨3, _⟩ => vIn m c
    | ⟨4, _⟩ => woIn m c
    | ⟨5, _⟩ => outIn m c
  Φ t := match t with
    | ⟨0, _⟩ => iprop(Xk (wqIn m) (woIn m) c ∗ scr c ∗ ∃ r, prngReg c r)
    | ⟨_ + 1, _⟩ => iprop((Pipeline.ownSems0 osem c ∗ Yk (wqIn m) (woIn m) c) ∗ scr c ∗ ∃ r, prngReg c r)
  q _ := fullShare
  owed t := match t with
    | ⟨0, _⟩ => tallyL (dues c)
    | ⟨_ + 1, _⟩ => 0

/-- The program's one region. -/
def pdats (p : Fin 1) (c : Dev nD) : Dat τ (Elt F) ℕ ℕ UU ℕ (cfgs p) c :=
  match p with
  | 0 => dat m c

theorem before_eq (c : Dev nD) : ∀ (w : Fin 6) (d : (cfg0.win w).block.Idx → Elt F (cfg0.win w).elt), w ≠ 5 →
    (dat m c).before w t0_0 d = (dat m c).after w t0_0 := fun w d hw =>
  match w, d, hw with
  | ⟨0, _⟩, d, _ => by unfold Dat.before; rw [if_pos (fetch0_0 _)]; rfl
  | ⟨1, _⟩, d, _ => by unfold Dat.before; rw [if_pos (fetch0_1 _)]; rfl
  | ⟨2, _⟩, d, _ => by unfold Dat.before; rw [if_pos (fetch0_2 _)]; rfl
  | ⟨3, _⟩, d, _ => by unfold Dat.before; rw [if_pos (fetch0_3 _)]; rfl
  | ⟨4, _⟩, d, _ => by unfold Dat.before; rw [if_pos (fetch0_4 _)]; rfl
  | ⟨5, _⟩, _, h => absurd rfl h

/-- What is owed when the body begins. -/
theorem owed_first (c : Dev nD) : (dat m c).owed t0_0.castSucc = tallyL (dues c) := rfl
/-- Nothing is owed when it ends. -/
theorem owed_last (c : Dev nD) : (dat m c).owed t0_0.succ = 0 := rfl
/-- What is held when the body begins. -/
theorem phi_first (c : Dev nD) : (dat m c).Φ t0_0.castSucc = iprop(Xk (wqIn m) (woIn m) c ∗ scr c ∗ ∃ r, prngReg c r) := rfl
/-- What is held when it ends. -/
theorem phi_last (c : Dev nD) : (dat m c).Φ t0_0.succ
    = iprop((Pipeline.ownSems0 osem c ∗ Yk (wqIn m) (woIn m) c) ∗ scr c ∗ ∃ r, prngReg c r) := rfl

/-- A whole buffer owned is the buffer at its contents. -/
theorem owns_eq (c : Dev nD) (b : Ref sig .tc) (X : b.ty.Contents (Elt F)) :
    (owns (Ix := ℕ) (Name := ℕ) (U := UU) (Lvl := ℕ) (c : Thread nD τ) (Memref.whole b) fullShare X : sProp 𝕄) = whole c b X := by
  have h1 : (owns (Ix := ℕ) (Name := ℕ) (U := UU) (Lvl := ℕ) (c : Thread nD τ) (Memref.whole b) fullShare X : sProp 𝕄) ⊢ whole c b X := by
    unfold owns
    simp only [Memref.view_whole, View.read_whole]
    iintro ⟨%f, %h, H⟩; subst h; iexact H
  have h2 : whole c b X ⊢ (owns (Ix := ℕ) (Name := ℕ) (U := UU) (Lvl := ℕ) (c : Thread nD τ) (Memref.whole b) fullShare X : sProp 𝕄) := by
    unfold owns
    simp only [Memref.view_whole, View.read_whole]
    iintro H; iexists X; isplitr; · ipureintro; rfl
    iexact H
  exact BI.equiv_iff.mp ⟨h1, h2⟩

/-- The body as the region calls it at its point. -/
theorem body_eq : defs₀ (F := F) .tc cfg0.body (cfg0.bodyArgs t0_0 (cfg0.slots t0_0)) = theBody := by
  show bodyAt0 t0_0 = theBody
  rfl

set_option maxRecDepth 100000 in
set_option maxHeartbeats 2000000 in
/-- The body's obligation: the protocol made ready, the body run, the protocol closed. -/
theorem body_ok (c : Dev nD) : BodyObligation (dat m c) (defs₀ (F := F)) 𝒱₀ 0 Set.univ := fun t => by
  rw [fin_N0 t, bigSep_W0, bigSep_W0, phi_first, phi_last, body_eq]
  show iprop((Xk (wqIn m) (woIn m) c ∗ scr c ∗ ∃ r, prngReg c r) ∗ (dat m c).owesAt 0 t0_0.castSucc
      ∗ (∃ d, owns (c : Thread nD τ) (Memref.whole cc0_stg0_0) fullShare ((dat m c).before 0 t0_0 d))
      ∗ (∃ d, owns (c : Thread nD τ) (Memref.whole cc0_stg1_0) fullShare ((dat m c).before 1 t0_0 d))
      ∗ (∃ d, owns (c : Thread nD τ) (Memref.whole cc0_stg2_0) fullShare ((dat m c).before 2 t0_0 d))
      ∗ (∃ d, owns (c : Thread nD τ) (Memref.whole cc0_stg3_0) fullShare ((dat m c).before 3 t0_0 d))
      ∗ (∃ d, owns (c : Thread nD τ) (Memref.whole cc0_stg4_0) fullShare ((dat m c).before 4 t0_0 d))
      ∗ (∃ d, owns (c : Thread nD τ) (Memref.whole cc0_stg5_0) fullShare ((dat m c).before 5 t0_0 d)))
    ⊢ wp frame (wpE (defs₀ (F := F)) 𝒱₀ (c : Thread nD τ) none) Set.univ theBody
      fun _ => iprop(((Pipeline.ownSems0 osem c ∗ Yk (wqIn m) (woIn m) c) ∗ scr c ∗ ∃ r, prngReg c r) ∗ (dat m c).owesAt 0 t0_0.succ
      ∗ owns (c : Thread nD τ) (Memref.whole cc0_stg0_0) fullShare (xIn m c)
      ∗ owns (c : Thread nD τ) (Memref.whole cc0_stg1_0) fullShare (wqIn m c)
      ∗ owns (c : Thread nD τ) (Memref.whole cc0_stg2_0) fullShare (kIn m c)
      ∗ owns (c : Thread nD τ) (Memref.whole cc0_stg3_0) fullShare (vIn m c)
      ∗ owns (c : Thread nD τ) (Memref.whole cc0_stg4_0) fullShare (woIn m c)
      ∗ owns (c : Thread nD τ) (Memref.whole cc0_stg5_0) fullShare (outIn m c))
  simp only [owns_eq]
  unfold scr
  iintro ⟨⟨HX, ⟨⟨%fq, Hq⟩, ⟨%fo, Ho⟩, Hc⟩, Hp⟩, HO, ⟨%d0, H0⟩, ⟨%d1, H1⟩, ⟨%d2, H2⟩, ⟨%d3, H3⟩, ⟨%d4, H4⟩, ⟨%d5, H5⟩⟩
  rw [before_eq m c 0 d0 (by decide), before_eq m c 1 d1 (by decide), before_eq m c 2 d2 (by decide), before_eq m c 3 d3 (by decide),
    before_eq m c 4 d4 (by decide)]
  ihave HO := (TalkSites.owesAt_elim (dat m c) 0 t0_0.castSucc _ (owed_first m c)) $$ HO
  icases HO with ⟨%W, HO⟩
  ihave HR := (ready (wqIn m) (woIn m) c fq fo W) $$ [HX HO Hq Ho]
  · isplitl [HX]; · iexact HX
    isplitl [HO]; · iexact HO
    isplitl [Hq] <;> iassumption
  icases HR with ⟨HB, Hq, Ho⟩
  iapply (wp_fupd _ _ _ _ _)
  iapply (bodyRun (wqIn m) (woIn m) c (xIn m c) (kIn m c) (vIn m c) _)
  isplitl [HB Hq Ho Hc H0 H1 H2 H3 H4 H5]
  · unfold before operands
    isplitl [HB]; · iexact HB
    isplitl [H0 H1 H2 H3 H4]
    · isplitl [H0]; · iexact H0
      isplitl [H1]; · iexact H1
      isplitl [H2]; · iexact H2
      isplitl [H3]; · iexact H3
      iexact H4
    isplitl [Hq]; · iexact Hq
    isplitl [Ho]; · iexact Ho
    isplitl [H5]; · iexists _; iexact H5
    iexact Hc
  unfold after operands
  iintro ⟨HS, ⟨H0, H1, H2, H3, H4⟩, Hq, Ho, H5, Hc⟩
  imod (closing (wqIn m) (woIn m) c) $$ HS with ⟨Hs, HY, ⟨%W', HO⟩⟩
  imodintro
  isplitl [Hs HY Hq Ho Hc Hp]
  · isplitl [Hs HY]; · isplitl [Hs] <;> iassumption
    isplitl [Hq Ho Hc]
    · isplitl [Hq]; · iexact Hq
      isplitl [Ho] <;> iassumption
    iexact Hp
  isplitl [HO]
  · iapply (TalkSites.owesAt_intro (dat m c) 0 t0_0.succ _ (owed_last m c) (by rfl) W'); iexact HO
  isplitl [H0]; · iexact H0
  isplitl [H1]; · iexact H1
  isplitl [H2]; · iexact H2
  isplitl [H3]; · iexact H3
  isplitl [H4]; · iexact H4
  iexact H5

/-! ## The region -/

/-- The scoped buffers that are no window's are the scratches. -/
theorem scr_eq (c : Dev nD) : (Pipeline.scopedRest (Ix := ℕ) (Name := ℕ) (U := UU) (Lvl := ℕ) (Val := Elt F) spec0 c : sProp 𝕄) = scr c := by
  rw [scopedRest0_eq]
  unfold scr whole
  rw [show (Memref.whole refQ : Memref sig .tc _ _ _).view.set = Finset.univ from View.set_whole _,
    show (Memref.whole refO : Memref sig .tc _ _ _).view.set = Finset.univ from View.set_whole _,
    show (Memref.whole cc0_scratch2 : Memref sig .tc _ _ _).view.set = Finset.univ from View.set_whole _]

/-- No buffer held is nothing held. -/
theorem held_none (c : Dev nD) (W : Valuation τ sig (Elt F)) : (StableHlo.held (c : Thread nD τ) ∅ W : sProp 𝕄) = BI.emp := by
  unfold StableHlo.held
  exact BI.bigSep_empty

/-- The region's share of the launch. -/
theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- Buffers of the device that no window stages. -/
abbrev others : Finset (DevRef τ sig) := Pipeline.ucRefs τ sig \ Pipeline.arrRefs (τ := τ) spec0

/-- Every tally of a list is at one of its cells, at that entry's level. -/
theorem tally_at (l : List (Pay nD τ sig)) (g : GSem nD τ sig) (i : ℕ) (h : 0 < tallyL l g i) : ∃ x ∈ l, g = x.1 ∧ i = x.2.1 := by
  induction l with
  | nil => exact absurd h (Nat.lt_irrefl 0)
  | cons x l ih =>
    rw [pays_tally, Pi.add_apply, Finsupp.add_apply] at h
    rcases Nat.add_pos_iff_pos_or_pos.mp h with h | h
    · obtain ⟨y, hy, e⟩ := ih h
      exact ⟨y, List.mem_cons_of_mem _ hy, e⟩
    · refine ⟨x, List.mem_cons_self .., ?_⟩
      have h' : 0 < tallyAt x.1 x.2.1 x.2.2 g i := h
      rw [tallyAt_apply] at h'
      split at h'
      · next e => exact e
      · exact absurd h' (Nat.lt_irrefl 0)

/-- What a device owes lies at levels one to four. -/
theorem dues_lev : ∀ c : Dev nD, ∀ x ∈ dues c, 0 < x.2.1 ∧ x.2.1 < 5 := by decide +kernel

/-- What is owed at a point lies within the levels and above zero. -/
theorem owed_lev (c : Dev nD) (g : GSem nD τ sig) (i : ℕ) (t : Fin (cfg0.N + 1)) (h : 0 < (dat m c).owed t g i) : i ∈ L 5 g ∧ 0 < lv g i := by
  have key : (dat m c).owed t = tallyL (dues c) ∨ (dat m c).owed t = 0 := by
    rcases t with ⟨_ | n, hn⟩
    · exact .inl rfl
    · exact .inr rfl
  rcases key with e | e <;> rw [e] at h
  · obtain ⟨x, hx, rfl, rfl⟩ := tally_at (dues c) g i h
    exact ⟨SiteBlocks.mem_L' (dues_tc c x hx) (dues_lev c x hx).2, (dues_lev c x hx).1⟩
  · exact absurd h (Nat.lt_irrefl 0)

/-- The cut below everything owed: the staging semaphores wait at level zero. -/
theorem cut : Pipeline.LevelCutOwed (pcfgs (F := F)) adm (pdats m) 0 (L 5) lv 0 (fun _ => 0) where
  hι c _ _ := SiteBlocks.mem_L c _ (by decide)
  hιb _ _ _ := Nat.le_refl 0
  hD c t g i h := owed_lev m c g i t h

/-- The result array after the call. -/
theorem out_at (c : Dev nD) : V2 m (outs m) c main_v21 = outIn m c := by
  show Function.update (V1 m c) main_v21 (outs m 2 main_v21 c) main_v21 = _
  rw [Function.update_self]
  unfold outs
  rw [Function.update_self]

/-- An operand's array is left as it entered. -/
theorem left_in (c : Dev nD) (w : Fin 6) (hin : (cfg0.win w).isOut = false) (r : Ref sig .tc) (hr : Pipeline.arrRef spec0 w = r) (hne : r ∉ [main_v21]) :
    (dat m c).arrAt w cfg0.N = V2 m (outs m) c (Proc.devRef .tc (Pipeline.arrRef spec0 w)) := by
  rw [(dat m c).arrAt_in w hin]
  show V1 m c _ = _
  subst hr
  exact (V2_of m (outs m) c _ hne).symm

/-- The result's array is left at the block the body wrote. -/
theorem left_out (c : Dev nD) : (dat m c).arrAt 5 cfg0.N = outIn m c :=
  (dat m c).arrAt_eq_of_after_last 5 t0_0 (by decide +kernel) (outIn m c) (fun j => rfl)

/-- What the region leaves in its windows' arrays. -/
theorem left (c : Dev nD) : ∀ w : Fin 6, (dat m c).arrAt w cfg0.N = V2 m (outs m) c (Proc.devRef .tc (Pipeline.arrRef spec0 w))
  | ⟨0, _⟩ => left_in m c 0 rfl main_arg0 rfl (by decide)
  | ⟨1, _⟩ => left_in m c 1 rfl main_v19 rfl (by decide)
  | ⟨2, _⟩ => left_in m c 2 rfl main_v15 rfl (by decide)
  | ⟨3, _⟩ => left_in m c 3 rfl main_v16 rfl (by decide)
  | ⟨4, _⟩ => left_in m c 4 rfl main_v20 rfl (by decide)
  | ⟨5, _⟩ => (left_out m c).trans (out_at m c).symm

set_option backward.isDefEq.respectTransparency.types false in
/-- The kernel's region. -/
def reg : Pipeline.RegionSeg (pcfgs (F := F)) adm (pdats m) 0 defs₀ 𝒱₀ (L 5) lv 0 :=
  Pipeline.RegionSeg.ofTalk (pcfgs (F := F)) adm (pdats m) 0 defs₀ 𝒱₀ (L 5) lv 0 osem (by decide : Pipeline.OwnSemFacts spec0 osem)
    ∅ others (Finset.empty_subset _) kitP rfl (fun c => (body_ok m c).loose)
    (fun _ => 0) (fun c => tallyL (dues c)) (fun c => (owed_first m c).trans (zero_add _).symm) (owed_last m) (fun _ => rfl)
    (fun c w => by unfold Pipeline.Dat.share; split <;> rfl)
    (V1 m) (V2 m (outs m)) (fun c b hb => by
      obtain ⟨hb, -⟩ := Finset.mem_sdiff.mp hb
      refine Function.update_of_ne (fun e => ?_) _ _
      subst e
      exact (Finset.mem_sdiff.mp hb).2 (by decide))
    (Tk (wqIn m) (woIn m)) (Yk (wqIn m) (woIn m)) (Xk (wqIn m) (woIn m)) (Yk (wqIn m) (woIn m)) (hopen (wqIn m) (woIn m))
    (fun c => by
      rw [show (pdats m 0 c).Φ 0 = iprop(Xk (wqIn m) (woIn m) c ∗ scr c ∗ ∃ r, prngReg c r) from rfl, ← scr_eq]
      iintro ⟨Hs, Hp, -, HX⟩
      isplitl [HX]; · iexact HX
      isplitl [Hs] <;> iassumption)
    (fun c => by
      rw [show (pdats m 0 c).Φ (Fin.last _) = iprop((Pipeline.ownSems0 osem c ∗ Yk (wqIn m) (woIn m) c) ∗ scr c ∗ ∃ r, prngReg c r) from rfl,
        ← scr_eq, held_none]
      iintro ⟨⟨Ho, HY⟩, Hs, Hp⟩
      isplitl [Hs]; · iexact Hs
      isplitl [Hp]; · iexact Hp
      isplitr; · iempintro
      isplitl [Ho] <;> iassumption)
    (fun c => by iintro H; imodintro; iexact H)
    (fun _ => 0) (cut m) (fun _ => iprop(emp)) (fun c w => rfl) (left m)

end

end Cert.KernelIdeal.Own

end
-- ==== Proof.Main.lean ====
/-
  The program run on all the devices at once: its arguments unchanged, its result the value the kernel writes, every semaphore at zero.
-/
module

public import proofs.«01_k».proof.Proof.Launch

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.TalkSites (Pay tallyL Fam)
open Idealize.ShloMosaic.SiteBlocks (L lv Funds)
open Cert.KernelIdeal.Gen

variable {F : FTy → Type} [FloatOps F]

local notation "𝕄" => MT nD τ sig ℕ (Elt F) ℕ UU ℕ

/-! ## The launch element -/

/-- The protocol's part of the launch element. -/
def talk₀ : UD := launchOf fam.S fam.Sd fam.T
/-- The launch element: the staging copies' part and the protocol's. -/
def u₀ : UU :=
  (initOf (Pipeline.cells (Pipeline.pin (pcfgs (F := F)) adm) cellOf_inj) (Pipeline.launchToks (Pipeline.pin (pcfgs (F := F)) adm) cellOf_inj), talk₀)

/-- One statement, kept by one device for all of them. -/
def kept (X : sProp 𝕄) (c : Dev nD) : sProp 𝕄 := if c = 0 then X else iprop(emp)

/-- The pieces that are kept, taken together. -/
theorem kept_all (X : sProp 𝕄) : bigSep Finset.univ (kept X) = X := by
  have h (c : Dev nD) (hc : c ∈ Finset.univ.erase (0 : Dev nD)) : kept X c = (BI.emp : sProp 𝕄) := if_neg (Finset.ne_of_mem_erase hc)
  rw [bigSep_univ_at _ (0 : Dev nD), bigSep_congr h, BI.bigSep_emp_const]
  show iprop(X ∗ BI.emp) = X
  exact BI.equiv_iff.mp sep_emp

section
variable (m : (ℓ : Loc nD τ sig) → Buf (Elt F) ℓ) (ρ : Dev nD → PrngReg)

/-! ## Between the program's parts -/

/-- What rides beside the device's buffers: before the region, what the launch gave; after it, the barrier's position. -/
def beside (j : Fin 2) (c : Dev nD) : sProp 𝕄 :=
  match j with
  | 0 => iprop(Tk (wqIn m) (woIn m) c ∗ (∃ W, owes (c : Thread nD τ) (tallyL (dues c)) W) ∗ ∃ r, prngReg c r)
  | 1 => iprop(Yk (wqIn m) (woIn m) c ∗ ∃ W, owes (c : Thread nD τ) (0 : CellTallies nD τ sig ℕ) W)

/-- The call's arrays are among the program's arrays. -/
theorem arrs_sub : Pipeline.arrRefs (τ := τ) spec0 ⊆ Pipeline.ucRefs τ sig := Pipeline.arrRefs_sub_ucRefs spec0 (by decide)

/-- Into the region. -/
theorem into (c : Dev nD) : iprop(StableHlo.held (c : Thread nD τ) (Pipeline.ucRefs τ sig) (V1 m c) ∗ beside m 0 c) ⊢ (reg m).pre c := by
  show _ ⊢ iprop(StableHlo.held (c : Thread nD τ) (Pipeline.arrRefs spec0) (V1 m c) ∗ (∃ r, prngReg c r)
    ∗ (StableHlo.held (c : Thread nD τ) others (V1 m c) ∗ emp) ∗ Tk (wqIn m) (woIn m) c ∗ ∃ W, owes (c : Thread nD τ) (0 + tallyL (dues c)) W)
  rw [StableHlo.held_sub_split _ arrs_sub, zero_add]
  show iprop(_ ∗ (Tk (wqIn m) (woIn m) c ∗ (∃ W, owes (c : Thread nD τ) (tallyL (dues c)) W) ∗ ∃ r, prngReg c r)) ⊢ _
  iintro ⟨⟨Ha, Ho⟩, HT, HO, Hp⟩
  isplitl [Ha]; · iexact Ha
  isplitl [Hp]; · iexact Hp
  isplitl [Ho]
  · isplitl [Ho]; · iexact Ho
    iempintro
  isplitl [HT] <;> iassumption

/-- Out of the region. -/
theorem outof (c : Dev nD) : (reg m).post c ⊢ iprop((StableHlo.held (c : Thread nD τ) (Pipeline.ucRefs τ sig) (V2 m (outs m) c) ∗ Yk (wqIn m) (woIn m) c)
    ∗ ∃ W, owes (c : Thread nD τ) (0 : CellTallies nD τ sig ℕ) W) := by
  show iprop(StableHlo.held (c : Thread nD τ) (Pipeline.arrRefs spec0) (V2 m (outs m) c) ∗ (∃ r, prngReg c r)
    ∗ (StableHlo.held (c : Thread nD τ) others (V2 m (outs m) c) ∗ emp) ∗ Yk (wqIn m) (woIn m) c ∗ ∃ W, owes (c : Thread nD τ) 0 W) ⊢ _
  rw [StableHlo.held_sub_split _ arrs_sub]
  iintro ⟨Ha, -, ⟨Ho, -⟩, HY, HO⟩
  isplitr [HO]
  · isplitr [HY]
    · isplitl [Ha] <;> iassumption
    · iexact HY
  · iexact HO

/-! ## The launch -/

/-- The unscoped semaphores are the barrier's. -/
theorem bar_only (c : Dev nD) : (unscopedSems0 c : sProp 𝕄) = semVal ((c : Thread nD τ), SemLoc.reg barS) 0 := by
  unfold unscopedSems0
  rw [show (Finset.univ.filter fun sm : SemLoc sig => ¬ sm.isScoped .tc) = {SemLoc.reg barS} from by decide, BI.bigSep_singleton]

/-- The barrier is the only semaphore that outlives the call. -/
theorem unscoped_eq : ∀ sm : SemLoc sig, sm.isScoped .tc = false → sm = .reg barS := by decide

/-- The barrier's semaphores, the credit and the launch element become what rides with each device. -/
theorem fund : Funds (ER (F := F)) (fun c => semVal ((c : Thread nD τ), SemLoc.reg barS) 0) (fun c => tallyL (dues c)) talk₀ (Tk (wqIn m) (woIn m)) Set.univ := by
  have h := TalkSites.pass (fun c => tallyL (dues c)) (fam.funds (Es := Set.univ) ER (rd (wqIn m) (woIn m)) (fun _ _ h => h) near)
  simp only [zero_add] at h
  exact h

/-- What the launch deals, made into what every device starts from. -/
theorem deal :
    iprop((bigSep Finset.univ fun c : Dev nD => iprop(unscopedBufs c (fun b => m ((c : Thread nD τ).loc b)) ∗ unscopedSems0 c
        ∗ owes (c : Thread nD τ) (tallyL (dues c)) ∅ ∗ Pipeline.launchCred (fun c => tallyL (dues c)) c ∗ prngReg c (ρ c) ∗ kept (BI.own (ER talk₀)) c)) ∗ levAts (L 5) lv)
      ⊢ (|={Set.univ}=> bigSep Finset.univ fun c : Dev nD => iprop(StableHlo.held (c : Thread nD τ) (Pipeline.ucRefs τ sig) (V0 m c) ∗ beside m 0 c) : sProp 𝕄) := by
  have h1 (c : Dev nD) : iprop(unscopedBufs c (fun b => m ((c : Thread nD τ).loc b)) ∗ unscopedSems0 c
        ∗ owes (c : Thread nD τ) (tallyL (dues c)) ∅ ∗ Pipeline.launchCred (fun c => tallyL (dues c)) c ∗ prngReg c (ρ c) ∗ kept (BI.own (ER talk₀)) c)
      ⊢ (iprop((StableHlo.held (c : Thread nD τ) (Pipeline.ucRefs τ sig) (V0 m c) ∗ (∃ W, owes (c : Thread nD τ) (tallyL (dues c)) W) ∗ ∃ r, prngReg c r)
          ∗ ((semVal ((c : Thread nD τ), SemLoc.reg barS) 0 ∗ Pipeline.launchCred (fun c => tallyL (dues c)) c) ∗ kept (BI.own (ER talk₀)) c)) : sProp 𝕄) := by
    rw [← Pipeline.unscopedBufs_held (Ix := ℕ) (Name := ℕ) (U := UU) (Lvl := ℕ) c (V0 m c), bar_only]
    iintro ⟨Hb, Hs, Ho, Hc, Hp, Hk⟩
    isplitl [Hb Ho Hp]
    · isplitl [Hb]; · iexact Hb
      isplitl [Ho]
      · iexists ∅; iexact Ho
      · iexists (ρ c); iexact Hp
    isplitr [Hk]
    · isplitl [Hs] <;> iassumption
    · iexact Hk
  have h2 (c : Dev nD) : iprop((StableHlo.held (c : Thread nD τ) (Pipeline.ucRefs τ sig) (V0 m c) ∗ (∃ W, owes (c : Thread nD τ) (tallyL (dues c)) W) ∗ ∃ r, prngReg c r)
        ∗ Tk (wqIn m) (woIn m) c)
      ⊢ (iprop(StableHlo.held (c : Thread nD τ) (Pipeline.ucRefs τ sig) (V0 m c) ∗ beside m 0 c) : sProp 𝕄) := by
    show _ ⊢ iprop(_ ∗ (Tk (wqIn m) (woIn m) c ∗ (∃ W, owes (c : Thread nD τ) (tallyL (dues c)) W) ∗ ∃ r, prngReg c r))
    iintro ⟨⟨Hb, Ho, Hp⟩, HT⟩
    isplitl [Hb]; · iexact Hb
    isplitl [HT]; · iexact HT
    isplitl [Ho] <;> iassumption
  have hF := fund m
  have hA : (bigSep Finset.univ fun c : Dev nD => iprop(unscopedBufs c (fun b => m ((c : Thread nD τ).loc b)) ∗ unscopedSems0 c
        ∗ owes (c : Thread nD τ) (tallyL (dues c)) ∅ ∗ Pipeline.launchCred (fun c => tallyL (dues c)) c ∗ prngReg c (ρ c) ∗ kept (BI.own (ER talk₀)) c))
      ⊢ (iprop((bigSep Finset.univ fun c : Dev nD => iprop(StableHlo.held (c : Thread nD τ) (Pipeline.ucRefs τ sig) (V0 m c)
            ∗ (∃ W, owes (c : Thread nD τ) (tallyL (dues c)) W) ∗ ∃ r, prngReg c r))
          ∗ (bigSep Finset.univ fun c : Dev nD => iprop(semVal ((c : Thread nD τ), SemLoc.reg barS) 0 ∗ Pipeline.launchCred (fun c => tallyL (dues c)) c))
          ∗ BI.own (ER talk₀)) : sProp 𝕄) := by
    rw [← kept_all (BI.own (ER talk₀)), ← bigSep_sep', ← bigSep_sep']
    rw [kept_all]
    exact bigSep_mono fun c _ => h1 c
  have hZ : iprop((bigSep Finset.univ fun c : Dev nD => iprop(StableHlo.held (c : Thread nD τ) (Pipeline.ucRefs τ sig) (V0 m c)
            ∗ (∃ W, owes (c : Thread nD τ) (tallyL (dues c)) W) ∗ ∃ r, prngReg c r)) ∗ bigSep Finset.univ (Tk (wqIn m) (woIn m)))
      ⊢ (bigSep Finset.univ fun c : Dev nD => iprop(StableHlo.held (c : Thread nD τ) (Pipeline.ucRefs τ sig) (V0 m c) ∗ beside m 0 c) : sProp 𝕄) := by
    rw [← bigSep_sep']
    exact bigSep_mono fun c _ => h2 c
  iintro ⟨H, -⟩
  ihave H := hA $$ H
  icases H with ⟨Hl, Hs, Hu⟩
  imod hF $$ [Hs Hu] with HT
  · isplitl [Hs] <;> iassumption
  imodintro
  iapply hZ
  isplitl [Hl] <;> iassumption

/-! ## The end -/

/-- An unscoped buffer's name, among the device's. -/
theorem mem_uc (b : Ref sig .tc) (h : ¬ b.isScoped = true) : Proc.devRef .tc b ∈ Pipeline.ucRefs τ sig :=
  Finset.mem_filter.mpr ⟨StableHlo.devRef_mem_tcRefs b, h⟩

/-- What a device's final memory is known to hold. -/
def Final (c : Dev nD) (s : MemSt nD τ sig (Elt F)) : Prop :=
  (∀ b ∈ Pipeline.ucRefs τ sig, s.mem (c, b) = V2 m (outs m) c b) ∧ s.sem ((c : Thread nD τ), SemLoc.reg barS) = 0

/-- What a device's end says of the memory. -/
theorem readout (c : Dev nD) (s' : Phys nD τ sig (Elt F)) :
    iprop((StableHlo.held (c : Thread nD τ) (Pipeline.ucRefs τ sig) (V2 m (outs m) c) ∗ Yk (wqIn m) (woIn m) c) ∗ SI s')
      ⊢ (|={Set.univ}=> iprop(⌜Final m c s'.mem⌝ ∗ SI s') : sProp 𝕄) := by
  have hb := fam.barPos_read ER (rd (wqIn m) (woIn m)) c (r := 1) rfl ∅ s'
  unfold StableHlo.held Yk
  iintro ⟨⟨Hh, HY⟩, HSI⟩
  ihave Hr := (pointsTo_read_all (Pipeline.ucRefs τ sig) (fun b => ((c : Thread nD τ).1, b)) (V2 m (outs m) c) s') $$ [Hh HSI]
  · isplitl [Hh] <;> iassumption
  icases Hr with ⟨%h, HSI⟩
  imod hb $$ [HY HSI] with ⟨%h', HSI⟩
  · isplitl [HY] <;> iassumption
  imodintro
  isplitr
  · ipureintro
    exact ⟨h, h'⟩
  · iexact HSI

set_option backward.isDefEq.respectTransparency.types false in
/-- The whole program, on all the devices. -/
theorem run_main : θ_run defs (onTc (τ := τ) (main (F := F))) ⟨m, fun _ => 0, ρ⟩ (fun r => (∀ c : Dev nD,
      r.2.mem ((c.tc : Thread nD τ).loc main_v21) = outIn m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) := by
  refine Pipeline.θ_run_regions_kit_dev_sems (pcfgs (F := F)) adm (pdats m) 0 cellOf_inj EP defs₀ 𝒱₀ (L 5) lv m ρ main
    (segs m 𝒱₀ (L 5) lv (beside m) 0 (pdats m) (reg m))
    (fun c Q => by
      rewrite [main_chain c, Pipeline.Seg.run_eq_chain,
        show (segs m 𝒱₀ (L 5) lv (beside m) 0 (pdats m) (reg m) c).map Pipeline.Seg.prog = [
          StableHlo.seq (hostOps0 c),
          Prog.lift (.customCall (Pipeline.entry 0) ()) ] from rfl]
      dsimp (config := { failIfUnchanged := false }) only
      exact .rfl)
    (fun c => by simp only [segs, Pipeline.Seg.pipes_host, Pipeline.Seg.pipes_region, Pipeline.Seg.pipes_nil]; decide)
    (fun c => tallyL (dues c)) (SiteBlocks.hL 5) (kept (BI.own (ER talk₀))) (u₀ (F := F)) ?_
    (T₀ := fun c => iprop(StableHlo.held (c : Thread nD τ) (Pipeline.ucRefs τ sig) (V0 m c) ∗ beside m 0 c))
    (Tₙ := fun c => iprop(StableHlo.held (c : Thread nD τ) (Pipeline.ucRefs τ sig) (V2 m (outs m) c) ∗ Yk (wqIn m) (woIn m) c))
    (hch := fun c => ⟨.rfl, into m c, outof m c⟩)
    (hinit := deal m ρ) (QY := Final m) (hfin := readout m) (hQ := fun s h hs => ⟨fun c => ?_, ?_⟩)
  · unfold u₀
    iintro Hu
    ihave H := (ownU_pair _ _) $$ Hu
    icases H with ⟨HP, HX⟩
    imodintro
    isplitl [HP]; · iexact HP
    rw [kept_all]; iexact HX
  · have hc := (h c).1
    exact ⟨(hc _ (mem_uc main_v21 (by decide))).trans (out_at m c),
      (hc _ (mem_uc main_arg0 (by decide))).trans (V2_main_arg0 m (outs m) c),
      (hc _ (mem_uc main_arg1 (by decide))).trans (V2_main_arg1 m (outs m) c),
      (hc _ (mem_uc main_arg2 (by decide))).trans (V2_main_arg2 m (outs m) c),
      (hc _ (mem_uc main_arg3 (by decide))).trans (V2_main_arg3 m (outs m) c),
      (hc _ (mem_uc main_arg4 (by decide))).trans (V2_main_arg4 m (outs m) c)⟩
  · exact sem_eq_zero hs fun c sm hsm => by
      obtain rfl := unscoped_eq sm hsm
      exact (h c).2

end

end Cert.KernelIdeal.Own

end
-- ==== Proof.Frames.lean ====
/-
  The frames: the kernel over machine words and over the extended reals, from one run over any float values.
-/
module

public import proofs.«01_k».proof.Defs
public import proofs.«01_k».proof.Proof.Gen.Kernel
public import proofs.«01_k».proof.Proof.Gen.ReferenceIdeal
public import proofs.«01_k».proof.Proof.Gen.ReferenceIdeal.Run
public import proofs.«01_k».proof.Proof.Main

@[expose] public section

noncomputable section

namespace Cert.Proof

open Idealize.ShloMosaic Idealize.SL.Sem

/-- The two texts' kernel functions at each label are the same. -/
theorem bodies_same : @Cert.Kernel.defs₀ Bits _ Cert.Kernel.Gen.facts = @Cert.KernelIdeal.defs₀ Bits _ Cert.KernelIdeal.Gen.facts := by
  unfold Cert.Kernel.defs₀ Cert.KernelIdeal.defs₀
  refine congrArg Defs.onTc ?_
  funext l a
  obtain ⟨n, hn⟩ := l
  match n, hn, a with
  | 0, _, (t, s) => exact rfl
  | n + 1, h, _ => exact absurd h (Nat.not_lt.2 (Nat.le_add_left _ _))

/-- So are their body tables with the pipelines. -/
theorem tables_same : @Cert.Kernel.defs Bits _ Cert.Kernel.Gen.facts = @Cert.KernelIdeal.defs Bits _ Cert.KernelIdeal.Gen.facts := by
  unfold Cert.Kernel.defs Cert.KernelIdeal.defs
  rw [bodies_same]
  rfl

/-- The kernel over machine words runs, its arguments unchanged and its semaphores at zero: the two texts are the same. -/
theorem frame_kernel : Cert.quiescent_Kernel (hKernel := Cert.Kernel.Gen.facts) := fun m ρ _ => by
  rw [tables_same]
  exact (θ_run (@Cert.KernelIdeal.defs Bits _ Cert.KernelIdeal.Gen.facts) _ _).mono (fun _ h => ⟨fun c => (h.1 c).2, h.2⟩)
    (Cert.KernelIdeal.Own.run_main (F := Bits) m ρ)

/-- The kernel over the extended reals runs, its arguments unchanged and its semaphores at zero. -/
theorem frame_ideal : Cert.quiescent_KernelIdeal (hKernelIdeal := Cert.KernelIdeal.Gen.facts) := fun m ρ _ =>
  (θ_run Cert.KernelIdeal.defs _ _).mono (fun _ h => ⟨fun c => (h.1 c).2, h.2⟩) (Cert.KernelIdeal.Own.run_main (F := Ideal) m ρ)

/-- The reference over the extended reals runs, its arguments unchanged; it has no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Reads.lean ====
/-
  What one chunk's values are, element by element over the extended reals.
-/
module

public import proofs.«01_k».proof.Proof.Spec
public import Idealize.ShloMosaic.Lib.Pointwise
public import Idealize.ShloMosaic.Lib.IdealHost
public import Idealize.ShloMosaic.PureOps.Ideal

@[expose] public section

set_option maxRecDepth 16384

noncomputable section

namespace Cert.KernelIdeal.Own

open Idealize.ShloMosaic Idealize.ShloMosaic.TcCoe
open Cert.KernelIdeal.Gen
open scoped BigOperators

/-- The block number of a query row, as its word. -/
theorem rowBlk (i j : Fin 128) : k0_pay1 (ix2 i j) = BitVec.ofNat 32 (i.val / 64) := by
  pointwise [k0_pay1]
  clear j; revert i; decide +kernel

/-- Blocks are ordered as their words are. -/
theorem blk_le : ∀ a b : Fin 2, IntOp.cmpi .sle (BitVec.ofNat 32 a.val) (BitVec.ofNat 32 b.val) = if a.val ≤ b.val then 1#1 else 0#1 := by decide

/-- A row sees a key when the key's block is not past its own. -/
theorem mask_at (i j : Fin 128) : mask (ix2 i j) = if j.val / 64 ≤ i.val / 64 then 1#1 else 0#1 := by
  pointwise [mask, k0_pay4, k0_pay2, k0_pay3]
  rw [rowBlk]
  refine Eq.trans (congrArg (IntOp.cmpi .sle · _) (a₂ := BitVec.ofNat 32 (j.val / 64)) ?_) (blk_le ⟨j.val / 64, by omega⟩ ⟨i.val / 64, by omega⟩)
  clear i; revert j; decide +kernel

/-- The masked score. -/
def sc (q : Fin 128 → Fin 64 → EReal) (k : Fin 64 → Fin 128 → EReal) (i j : Fin 128) : EReal :=
  if j.val / 64 ≤ i.val / 64 then ∑ d : Fin 64, q i d * k d j else Ideal.ofBits .f32 0xCE6E6B28#32

/-- Choosing by the mask is asking for the blocks' order. -/
theorem select_mask (i j : Fin 128) (u v : EReal) : Scalar.select (mask (ix2 i j)) u v = if j.val / 64 ≤ i.val / 64 then u else v := by
  rw [mask_at]; split <;> rfl

/-- A weight is the score's exponential over the sum of its row's. -/
theorem weights_at (qh : FVec Ideal S128x64 .f32) (kb : Vec Ideal S1x1x64x128 .f32) (i j : Fin 128) :
    weights qh kb (ix2 i j) = Ideal.div (Ideal.exp (sc (fun i d => qh (ix2 i d)) (fun d j => kb (ix4 0 0 d j)) i j))
      (∑ l : Fin 128, Ideal.exp (sc (fun i d => qh (ix2 i d)) (fun d j => kb (ix4 0 0 d j)) i l)) := by
  pointwise [weights]
  simp only [select_mask]
  rfl

/-- A head's context is the weighted sum of the values. -/
theorem headOf_at (qh : FVec Ideal S128x64 .f32) (kb : Vec Ideal S1x1x64x128 .f32) (vb : Vec Ideal S1x1x128x64 .f32) (i : Fin 128) (d : Fin 64) :
    headOf qh kb vb (ix2 i d) = ∑ j : Fin 128, weights qh kb (ix2 i j) * vb (ix4 0 0 j d) := by
  pointwise [headOf]

/-- A whole buffer read at a rectangle reads the buffer's element there. -/
theorem readAt_unit {r : Ref sig .tc} {off size : Fin r.ty.shape.rank → ℕ} (inb : ∀ a, off a + size a ≤ r.ty.shape.size a) (f : r.ty.Contents (Elt Ideal))
    (i : (Rect.unit (s := r.ty.shape) off size inb).shape.Idx) (j : r.ty.shape.Idx) (h : ∀ a, (j a).val = off a + (i a).val) :
    (Memref.whole r).view.readAt (Elt Ideal) (Rect.unit (s := r.ty.shape) off size inb).toLoadRect f i = f j := by
  show f _ = f j
  congr 1
  funext a
  apply Fin.ext
  show off a + 1 * (i a).val = (j a).val
  rw [h a]; omega

section
variable (wq : Dev nD → FVec Ideal S512x256 .bf16) (wo : Dev nD → FVec Ideal S256x512 .bf16) (c : Dev nD) (x : FVec Ideal S2x128x512 .f32)
   (kk : FVec Ideal S32x2x64x128 .f32) (vv : FVec Ideal S32x2x128x64 .f32)

/-- The heads' offsets in the buffers of keys and of values. -/
theorem offs (c : Dev nD) : ∀ (m : Fin 8) (h : Fin 4),
    k0_off1 c (BitVec.ofNat 32 m.val) (BitVec.ofNat 32 h.val) = ![4 * (xr c m.val).val + h.val, 0, 0, 0]
    ∧ k0_off2 c (BitVec.ofNat 32 m.val) (BitVec.ofNat 32 h.val) = ![4 * (xr c m.val).val + h.val, 0, 0, 0]
    ∧ k0_off3 c (BitVec.ofNat 32 m.val) (BitVec.ofNat 32 h.val) = ![4 * (xr c m.val).val + h.val, 1, 0, 0]
    ∧ k0_off4 c (BitVec.ofNat 32 m.val) (BitVec.ofNat 32 h.val) = ![4 * (xr c m.val).val + h.val, 1, 0, 0] := by
  revert c; decide +kernel

/-- Head `h` of device `d` among all heads. -/
def headIx (d : Dev nD) (h : Fin 4) : Fin 32 := ⟨4 * d.val + h.val, by have : d.val < 8 := d.isLt; omega⟩

/-- A batch row of the input, entry by entry. -/
theorem xRow_at (b : Fin 2) (i : Fin 128) (e : Fin 512) : xRow (F := Ideal) x b (ix3 0 i e) = x (ix3 b i e) :=
  readAt_unit (r := cc0_stg0_0) _ x _ _ fun a => match a with
    | ⟨0, _⟩ => rfl
    | ⟨1, _⟩ => (Nat.zero_add _).symm
    | ⟨2, _⟩ => (Nat.zero_add _).symm

/-- The keys of a chunk's head, entry by entry. -/
theorem keysAt_at (b : Fin 2) (m : Fin 8) (h : Fin 4) (d : Fin 64) (j : Fin 128) :
    keysAt (F := Ideal) c kk b m h (ix4 0 0 d j) = kk (ix4 (headIx (xr c m.val) h) b d j) := by
  have o := offs c m h
  match b with
  | ⟨0, _⟩ =>
    exact readAt_unit (r := cc0_stg2_0) _ kk _ _ fun a => by
      refine Eq.trans ?_ (congrArg (· + _) (congrFun o.1 a).symm)
      match a with
      | ⟨0, _⟩ => rfl
      | ⟨1, _⟩ => rfl
      | ⟨2, _⟩ => exact (Nat.zero_add _).symm
      | ⟨3, _⟩ => exact (Nat.zero_add _).symm
  | ⟨1, _⟩ =>
    exact readAt_unit (r := cc0_stg2_0) _ kk _ _ fun a => by
      refine Eq.trans ?_ (congrArg (· + _) (congrFun o.2.2.1 a).symm)
      match a with
      | ⟨0, _⟩ => rfl
      | ⟨1, _⟩ => rfl
      | ⟨2, _⟩ => exact (Nat.zero_add _).symm
      | ⟨3, _⟩ => exact (Nat.zero_add _).symm

/-- The values of a chunk's head, entry by entry. -/
theorem valsAt_at (b : Fin 2) (m : Fin 8) (h : Fin 4) (j : Fin 128) (d : Fin 64) :
    valsAt (F := Ideal) c vv b m h (ix4 0 0 j d) = vv (ix4 (headIx (xr c m.val) h) b j d) := by
  have o := offs c m h
  match b with
  | ⟨0, _⟩ =>
    exact readAt_unit (r := cc0_stg3_0) _ vv _ _ fun a => by
      refine Eq.trans ?_ (congrArg (· + _) (congrFun o.2.1 a).symm)
      match a with
      | ⟨0, _⟩ => rfl
      | ⟨1, _⟩ => rfl
      | ⟨2, _⟩ => exact (Nat.zero_add _).symm
      | ⟨3, _⟩ => exact (Nat.zero_add _).symm
  | ⟨1, _⟩ =>
    exact readAt_unit (r := cc0_stg3_0) _ vv _ _ fun a => by
      refine Eq.trans ?_ (congrArg (· + _) (congrFun o.2.2.2 a).symm)
      match a with
      | ⟨0, _⟩ => rfl
      | ⟨1, _⟩ => rfl
      | ⟨2, _⟩ => exact (Nat.zero_add _).symm
      | ⟨3, _⟩ => exact (Nat.zero_add _).symm

/-- A chunk's query weights, entry by entry. -/
theorem wqAt_at (m : Fin 8) (e : Fin 512) (t : Fin 256) : wqAt (F := Ideal) wq c m (ix2 e t) = wq (xr c m.val) (ix2 e t) := by
  match m with
  | ⟨0, _⟩ =>
    have h0 : xr c 0 = c := by revert c; decide
    unfold wqAt
    pointwise [k0_pay5]
    refine (readAt_unit (r := refA1) _ (wq c) _ (ix2 e t) fun a => match a with
      | ⟨0, _⟩ => (Nat.zero_add _).symm
      | ⟨1, _⟩ => (Nat.zero_add _).symm).trans (congrArg (fun d => wq d (ix2 e t)) h0.symm)
  | ⟨m + 1, h⟩ =>
    unfold wqAt
    pointwise [k0_pay19]
    refine Eq.trans (b := WQ (F := Ideal) wq c (ix3 ⟨m + 1, h⟩ e t)) ?_ ?_
    · exact readAt_unit (r := refQ) (off := ![m + 1, 0, 0]) (size := ![1, 512, 256]) (slotQ_in ⟨m, by omega⟩) (WQ (F := Ideal) wq c) (ix3 0 e t) (ix3 ⟨m + 1, h⟩ e t) fun a => match a with
        | ⟨0, _⟩ => rfl
        | ⟨1, _⟩ => (Nat.zero_add _).symm
        | ⟨2, _⟩ => (Nat.zero_add _).symm
    unfold WQ
    refine congrArg (wq _) (funext fun a => ?_)
    match a with
    | ⟨0, _⟩ => rfl
    | ⟨1, _⟩ => rfl

/-- A chunk's output weights, entry by entry. -/
theorem woAt_at (m : Fin 8) (t : Fin 256) (n : Fin 512) : woAt (F := Ideal) wo c m (ix2 t n) = wo (xr c m.val) (ix2 t n) := by
  match m with
  | ⟨0, _⟩ =>
    have h0 : xr c 0 = c := by revert c; decide
    unfold woAt
    pointwise [k0_pay6]
    refine (readAt_unit (r := refA4) _ (wo c) _ (ix2 t n) fun a => match a with
      | ⟨0, _⟩ => (Nat.zero_add _).symm
      | ⟨1, _⟩ => (Nat.zero_add _).symm).trans (congrArg (fun d => wo d (ix2 t n)) h0.symm)
  | ⟨m + 1, h⟩ =>
    unfold woAt
    pointwise [k0_pay65]
    refine Eq.trans (b := WO (F := Ideal) wo c (ix3 ⟨m + 1, h⟩ t n)) ?_ ?_
    · exact readAt_unit (r := refO) (off := ![m + 1, 0, 0]) (size := ![1, 256, 512]) (slotO_in ⟨m, by omega⟩) (WO (F := Ideal) wo c) (ix3 0 t n) (ix3 ⟨m + 1, h⟩ t n) fun a => match a with
        | ⟨0, _⟩ => rfl
        | ⟨1, _⟩ => (Nat.zero_add _).symm
        | ⟨2, _⟩ => (Nat.zero_add _).symm
    unfold WO
    refine congrArg (wo _) (funext fun a => ?_)
    match a with
    | ⟨0, _⟩ => rfl
    | ⟨1, _⟩ => rfl

/-- A query is the row of the input against a column of the slot's weights. -/
theorem queries_at (b : Fin 2) (m : Fin 8) (i : Fin 128) (t : Fin 256) :
    queries (F := Ideal) wq c x b m (ix2 i t) = ∑ e : Fin 512, x (ix3 b i e) * wq (xr c m.val) (ix2 e t) := by
  pointwise [queries]
  simp only [xRow_at, wqAt_at]

/-- Coordinate `d` of head `h` among a chunk's 256 columns. -/
def colIx (h : Fin 4) (d : Fin 64) : Fin 256 := ⟨64 * h.val + d.val, by omega⟩

/-- What head `h` gives at row `i`, coordinate `d`: the exponentials' quotient against the values. -/
def ctxAt (b : Fin 2) (g : Dev nD) (i : Fin 128) (h : Fin 4) (d : Fin 64) : EReal :=
  let s := sc (fun i d => ∑ e : Fin 512, x (ix3 b i e) * wq g (ix2 e (colIx h d))) (fun d j => kk (ix4 (headIx g h) b d j))
  ∑ j : Fin 128, Ideal.div (Ideal.exp (s i j)) (∑ l : Fin 128, Ideal.exp (s i l)) * vv (ix4 (headIx g h) b j d)

/-- The context of a chunk at head `h` and that head's coordinate `d`. -/
theorem ctxOf_at (b : Fin 2) (m : Fin 8) (i : Fin 128) (h : Fin 4) (d : Fin 64) :
    ctxOf (F := Ideal) wq c x kk vv b m (ix2 i (colIx h d)) = ctxAt wq x kk vv b (xr c m.val) i h d := by
  have key : ∀ (o : ℕ) (hs : S128x256.Slices ![0, o] S128x64), o = 64 * h.val → ∀ (d' : Fin 64), d'.val = d.val →
      headOf (F := Ideal) (extractStridedSlice S128x64 ![0, o] (queries (F := Ideal) wq c x b m) hs) (keysAt (F := Ideal) c kk b m h) (valsAt (F := Ideal) c vv b m h) (ix2 i d')
        = ctxAt wq x kk vv b (xr c m.val) i h d := fun o hs ho d' hd' => by
    obtain rfl : d' = d := Fin.ext hd'
    rw [headOf_at]
    have hq : ∀ i d, extractStridedSlice S128x64 ![0, o] (queries (F := Ideal) wq c x b m) hs (ix2 i d) = queries (F := Ideal) wq c x b m (ix2 i (colIx h d)) := fun i d => by
      refine congrArg (queries (F := Ideal) wq c x b m) (funext fun a => Fin.ext ?_)
      match a with
      | ⟨0, _⟩ => exact Nat.zero_add _
      | ⟨1, _⟩ => exact congrArg (· + d.val) ho
    simp only [weights_at, hq, queries_at, keysAt_at, valsAt_at]
    rfl
  have hd := d.isLt
  pointwise [ctxOf]
  unfold colIx
  match h, key with
  | ⟨0, _⟩, key => rw [dif_pos (show 64 * 0 + d.val < 64 by omega)]; exact key _ _ rfl _ (show 64 * 0 + d.val = d.val by omega)
  | ⟨1, _⟩, key =>
    rw [dif_neg (show ¬ 64 * 1 + d.val < 64 by omega), dif_pos (show 64 * 1 + d.val - 64 < 64 by omega)]
    exact key _ _ rfl _ (show 64 * 1 + d.val - 64 = d.val by omega)
  | ⟨2, _⟩, key =>
    rw [dif_neg (show ¬ 64 * 2 + d.val < 64 by omega), dif_neg (show ¬ 64 * 2 + d.val - 64 < 64 by omega), dif_pos (show 64 * 2 + d.val - 64 - 64 < 64 by omega)]
    exact key _ _ rfl _ (show 64 * 2 + d.val - 64 - 64 = d.val by omega)
  | ⟨3, _⟩, key =>
    rw [dif_neg (show ¬ 64 * 3 + d.val < 64 by omega), dif_neg (show ¬ 64 * 3 + d.val - 64 < 64 by omega), dif_neg (show ¬ 64 * 3 + d.val - 64 - 64 < 64 by omega)]
    exact key _ _ rfl _ (show 64 * 3 + d.val - 64 - 64 - 64 = d.val by omega)

/-- A row of the result is the sum of its eight chunks. -/
theorem outRow_at (b : Fin 2) (i : Fin 128) (n : Fin 512) :
    outRow (F := Ideal) wq wo c x kk vv b (ix3 0 i n) = ∑ m : Fin 8, ∑ t : Fin 256, ctxOf (F := Ideal) wq c x kk vv b m (ix2 i t) * wo (xr c m.val) (ix2 t n) := by
  unfold outRow order
  simp only [List.foldl_cons, List.foldl_nil]
  pointwise [addOut, firstOut]
  simp only [woAt_at]
  rw [Fin.sum_univ_eight]
  abel
end

end Cert.KernelIdeal.Own

end
-- ==== Proof.Blocks.lean ====
/-
  What each device's buffers hold of its own arguments, element by element over the extended reals.
-/
module

public import proofs.«01_k».proof.Proof.Launch
public import proofs.«01_k».proof.Proof.Reads
public import Idealize.ShloMosaic.Lib.Tactic.CleanTypes
public import Idealize.ShloMosaic.Lib.StableHlo.RunRead
public import Idealize.ShloMosaic.Lib.DynamicIndex
public import Idealize.ShloMosaic.Lib.Pipeline.ValueKit

@[expose] public section

set_option maxRecDepth 16384

noncomputable section

namespace Cert.KernelIdeal.Own

open Idealize.ShloMosaic Idealize.ShloMosaic.TcCoe
open Cert.KernelIdeal.Gen
open scoped BigOperators

/-- The first of a device's batch rows: its word, clamped into the array, is twice the device. -/
theorem startWord : ∀ c : Dev nD, (min (max (BitVec.toInt ((select (cmpi CmpIPredicate.slt (muli (id (Host.remui (Host.divui (constantI S_ 32 c.word) (constantI S_ 32 1#32)) (constantI S_ 32 8#32))) (constantI S_ 32 2#32)) (constantI S_ 32 0#32)) (addi (muli (id (Host.remui (Host.divui (constantI S_ 32 c.word) (constantI S_ 32 1#32)) (constantI S_ 32 8#32))) (constantI S_ 32 2#32)) (constantI S_ 32 16#32))
    (muli (id (Host.remui (Host.divui (constantI S_ 32 c.word) (constantI S_ 32 1#32)) (constantI S_ 32 8#32))) (constantI S_ 32 2#32)) : IVec S_ 32) (Shape.Idx.first h_S_))) 0) ((16 - 2 : ℕ) : ℤ)).toNat = 2 * c.val := by
  decide +kernel

section
variable (m : (ℓ : Loc nD τ sig) → Buf (Elt Ideal) ℓ) (c : Dev nD)

/-- The device's rows of the input. -/
abbrev aX : FVec Ideal S2x128x512 .f32 := m ((c.tc : Thread nD τ).loc main_arg0)
/-- Its columns of the query weights. -/
abbrev aW : FVec Ideal S512x256 .f32 := m ((c.tc : Thread nD τ).loc main_arg1)
/-- The keys. -/
abbrev aK : FVec Ideal S16x128x32x64 .f32 := m ((c.tc : Thread nD τ).loc main_arg2)
/-- The values. -/
abbrev aV : FVec Ideal S16x128x32x64 .f32 := m ((c.tc : Thread nD τ).loc main_arg3)
/-- Its rows of the output weights. -/
abbrev aO : FVec Ideal S256x512 .f32 := m ((c.tc : Thread nD τ).loc main_arg4)

/-- The one point's block of the input is the array itself. -/
theorem emb0 (y : S2x128x512.Idx) : (win0_0.blk t0_0).view.emb y = y := by
  funext a; apply Fin.ext
  blk_simp [show win0_0.index t0_0 a = 0 by revert a; decide +kernel]
/-- The query weights are one block, read in place. -/
theorem emb1 (y : S512x256.Idx) : (win0_1.blk t0_0).view.emb y = y := by
  funext a; apply Fin.ext
  blk_simp [show win0_1.index t0_0 a = 0 by revert a; decide +kernel]
/-- The keys are one block, read in place. -/
theorem emb2 (y : S32x2x64x128.Idx) : (win0_2.blk t0_0).view.emb y = y := by
  funext a; apply Fin.ext
  blk_simp [show win0_2.index t0_0 a = 0 by revert a; decide +kernel]
/-- The values are one block, read in place. -/
theorem emb3 (y : S32x2x128x64.Idx) : (win0_3.blk t0_0).view.emb y = y := by
  funext a; apply Fin.ext
  blk_simp [show win0_3.index t0_0 a = 0 by revert a; decide +kernel]
/-- The output weights are one block, read in place. -/
theorem emb4 (y : S256x512.Idx) : (win0_4.blk t0_0).view.emb y = y := by
  funext a; apply Fin.ext
  blk_simp [show win0_4.index t0_0 a = 0 by revert a; decide +kernel]

/-- The buffer of the input. -/
theorem xIn_at (b : Fin 2) (i : Fin 128) (e : Fin 512) : xIn (F := Ideal) m c (ix3 b i e) = aX m c (ix3 b i e) := by
  refine Eq.trans (congrArg (V1 m c main_arg0) (emb0 (ix3 b i e))) ?_
  rw [V1_of m c main_arg0 (by decide)]

/-- The query weights the call is given, entry by entry. -/
theorem v19_at (e : Fin 512) (t : Fin 256) : (V1 (F := Ideal) m c main_v19 : FVec Ideal S512x256 .bf16) (ix2 e t) = aW m c (ix2 e t) * Ideal.ofBits .f32 0x3E000000#32 := by
  have h : V1 (F := Ideal) m c main_v19 = truncf .bf16 (mulf (aW m c) (broadcastInDim S512x256 ![] bcast_S_S512x256 (constant S_ .f32 0x3E000000#32))) bitsLt_bf16_f32 := by
    unfold_abbrev_sides
    after_reads_simp
  rw [h]
  pointwise

/-- The output weights the call is given, entry by entry. -/
theorem v20_at (t : Fin 256) (n : Fin 512) : (V1 (F := Ideal) m c main_v20 : FVec Ideal S256x512 .bf16) (ix2 t n) = aO m c (ix2 t n) := by
  have h : V1 (F := Ideal) m c main_v20 = truncf .bf16 (aO m c) bitsLt_bf16_f32 := by
    unfold_abbrev_sides
    after_reads_simp
  rw [h]
  pointwise

/-- The keys, the device's batch rows, head first. -/
theorem v15_at (h : Fin 32) (b : Fin 2) (d : Fin 64) (j : Fin 128) : (V1 (F := Ideal) m c main_v15 : FVec Ideal S32x2x64x128 .f32) (ix4 h b d j)
    = aK m c (ix4 ⟨2 * c.val + b.val, by have : c.val < 8 := c.isLt; omega⟩ j h d) := by
  unfold_abbrev_sides
  after_reads_simp
  clean_types
  pointwise
  refine congrArg (aK m c) (funext fun a => Fin.ext ?_)
  match a with
  | ⟨0, _⟩ =>
    show Host.clampedStart _ _ _ _ _ + b.val = 2 * c.val + b.val
    refine congrArg (· + b.val) ?_
    unfold Host.clampedStart
    simp only [Matrix.cons_val_zero]
    after_reads_simp
    exact startWord c
  | ⟨1, _⟩ =>
    show Host.clampedStart _ _ _ _ _ + j.val = j.val
    refine (congrArg (· + j.val) (Nat.le_zero.mp ?_)).trans (Nat.zero_add _)
    unfold Host.clampedStart
    exact Int.toNat_le.mpr (min_le_right _ _)
  | ⟨2, _⟩ =>
    show Host.clampedStart _ _ _ _ _ + h.val = h.val
    refine (congrArg (· + h.val) (Nat.le_zero.mp ?_)).trans (Nat.zero_add _)
    unfold Host.clampedStart
    exact Int.toNat_le.mpr (min_le_right _ _)
  | ⟨3, _⟩ =>
    show Host.clampedStart _ _ _ _ _ + d.val = d.val
    refine (congrArg (· + d.val) (Nat.le_zero.mp ?_)).trans (Nat.zero_add _)
    unfold Host.clampedStart
    exact Int.toNat_le.mpr (min_le_right _ _)

/-- The values, the device's batch rows, head first. -/
theorem v16_at (h : Fin 32) (b : Fin 2) (d : Fin 64) (j : Fin 128) : (V1 (F := Ideal) m c main_v16 : FVec Ideal S32x2x128x64 .f32) (ix4 h b j d)
    = aV m c (ix4 ⟨2 * c.val + b.val, by have : c.val < 8 := c.isLt; omega⟩ j h d) := by
  unfold_abbrev_sides
  after_reads_simp
  clean_types
  pointwise
  refine congrArg (aV m c) (funext fun a => Fin.ext ?_)
  match a with
  | ⟨0, _⟩ =>
    show Host.clampedStart _ _ _ _ _ + b.val = 2 * c.val + b.val
    refine congrArg (· + b.val) ?_
    unfold Host.clampedStart
    simp only [Matrix.cons_val_zero]
    after_reads_simp
    exact startWord c
  | ⟨1, _⟩ =>
    show Host.clampedStart _ _ _ _ _ + j.val = j.val
    refine (congrArg (· + j.val) (Nat.le_zero.mp ?_)).trans (Nat.zero_add _)
    unfold Host.clampedStart
    exact Int.toNat_le.mpr (min_le_right _ _)
  | ⟨2, _⟩ =>
    show Host.clampedStart _ _ _ _ _ + h.val = h.val
    refine (congrArg (· + h.val) (Nat.le_zero.mp ?_)).trans (Nat.zero_add _)
    unfold Host.clampedStart
    exact Int.toNat_le.mpr (min_le_right _ _)
  | ⟨3, _⟩ =>
    show Host.clampedStart _ _ _ _ _ + d.val = d.val
    refine (congrArg (· + d.val) (Nat.le_zero.mp ?_)).trans (Nat.zero_add _)
    unfold Host.clampedStart
    exact Int.toNat_le.mpr (min_le_right _ _)

/-- The buffer of the query weights: the device's columns, scaled. -/
theorem wqIn_at (e : Fin 512) (t : Fin 256) : wqIn (F := Ideal) m c (ix2 e t) = aW m c (ix2 e t) * Ideal.ofBits .f32 0x3E000000#32 :=
  (congrArg (V1 m c main_v19) (emb1 (ix2 e t))).trans (v19_at m c e t)

/-- The buffer of the keys. -/
theorem kIn_at (h : Fin 32) (b : Fin 2) (d : Fin 64) (j : Fin 128) :
    kIn (F := Ideal) m c (ix4 h b d j) = aK m c (ix4 ⟨2 * c.val + b.val, by have : c.val < 8 := c.isLt; omega⟩ j h d) :=
  (congrArg (V1 m c main_v15) (emb2 (ix4 h b d j))).trans (v15_at m c h b d j)

/-- The buffer of the values. -/
theorem vIn_at (h : Fin 32) (b : Fin 2) (d : Fin 64) (j : Fin 128) :
    vIn (F := Ideal) m c (ix4 h b j d) = aV m c (ix4 ⟨2 * c.val + b.val, by have : c.val < 8 := c.isLt; omega⟩ j h d) :=
  (congrArg (V1 m c main_v16) (emb3 (ix4 h b j d))).trans (v16_at m c h b d j)

/-- The buffer of the output weights: the device's rows. -/
theorem woIn_at (t : Fin 256) (n : Fin 512) : woIn (F := Ideal) m c (ix2 t n) = aO m c (ix2 t n) :=
  (congrArg (V1 m c main_v20) (emb4 (ix2 t n))).trans (v20_at m c t n)
end

end Cert.KernelIdeal.Own
-- ==== Proof.Maths.lean ====
/-
  The arithmetic that joins the two programs: a softmax without its shift, and a score scaled early or late.
-/
module

public import Idealize.ShloMosaic.Lib.IdealHost
public import Idealize.ShloMosaic.PureOps.Ideal

@[expose] public section

noncomputable section

namespace Cert.Maths

open Idealize.ShloMosaic
open scoped BigOperators

/-- A value that is a real number. -/
def Real' (x : EReal) : Prop := ∃ r : ℝ, x = (r : EReal)

/-- A sum of reals, read among the extended reals. -/
theorem real_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A value whose magnitude is below the top is real. -/
theorem real_of_abs (x : EReal) (h : max x (-x) < ⊤) : Real' x := by
  induction x using EReal.rec with
  | bot => simp at h
  | coe r => exact ⟨r, rfl⟩
  | top => simp at h

/-- The quotient of reals, the divisor positive. -/
theorem div_real (a b : ℝ) (hb : 0 < b) : Ideal.div (a : EReal) (b : EReal) = ((a / b : ℝ) : EReal) := by
  unfold Ideal.div
  rw [if_neg (by exact_mod_cast hb.ne'), ← EReal.coe_inv, ← EReal.coe_mul, div_eq_mul_inv]

/-- The largest of finitely many reals is one of them. -/
theorem max_real {n : ℕ} (r : Fin (n + 1) → ℝ) : ∃ k, Finset.univ.fold max (⊥ : EReal) (fun j => (r j : EReal)) = (r k : EReal) := by
  obtain ⟨k, _, hk⟩ := Finset.exists_mem_eq_sup (Finset.univ : Finset (Fin (n + 1))) Finset.univ_nonempty (fun j => (r j : EReal))
  exact ⟨k, hk⟩

/-- A softmax of reals shifted by its largest score is the softmax. -/
theorem soft {n : ℕ} (s : Fin (n + 1) → EReal) (hs : ∀ j, Real' (s j)) (j : Fin (n + 1)) :
    Ideal.div (Ideal.exp (s j - Finset.univ.fold max (⊥ : EReal) s)) (∑ l, Ideal.exp (s l - Finset.univ.fold max (⊥ : EReal) s))
      = Ideal.div (Ideal.exp (s j)) (∑ l, Ideal.exp (s l)) := by
  choose r hr using hs
  obtain rfl : s = fun j => (r j : EReal) := funext hr
  obtain ⟨k, hk⟩ := max_real r
  rw [hk]
  have e1 : ∀ l, Ideal.exp ((r l : EReal) - (r k : EReal)) = ((Real.exp (r l) / Real.exp (r k) : ℝ) : EReal) := fun l => by
    rw [← EReal.coe_sub, ← Real.exp_sub]; rfl
  have e2 : ∀ l, Ideal.exp (r l : EReal) = (Real.exp (r l) : EReal) := fun l => rfl
  simp only [e1, e2, ← real_sum]
  have p : 0 < ∑ l, Real.exp (r l) := Finset.sum_pos (fun l _ => Real.exp_pos _) Finset.univ_nonempty
  rw [← Finset.sum_div, div_real _ _ (div_pos p (Real.exp_pos _)), div_real _ _ p, div_div_div_cancel_right₀ (Real.exp_pos _).ne']

/-- Scaling the weights scales the score. -/
theorem scale {n k : ℕ} (x : Fin n → EReal) (w : Fin n → Fin k → EReal) (y : Fin k → EReal) (c : EReal)
    (hx : ∀ e, Real' (x e)) (hw : ∀ e d, Real' (w e d)) (hy : ∀ d, Real' (y d)) (hc : Real' c) :
    ∑ d, (∑ e, x e * (w e d * c)) * y d = (∑ d, (∑ e, x e * w e d) * y d) * c := by
  choose x' hx using hx
  choose w' hw using hw
  choose y' hy using hy
  obtain ⟨c', rfl⟩ := hc
  simp only [hx, hw, hy, ← EReal.coe_mul, ← real_sum]
  refine congrArg _ ?_
  simp only [Finset.sum_mul]
  exact Finset.sum_congr rfl fun d _ => Finset.sum_congr rfl fun e _ => by ring

/-- A score of reals is real. -/
theorem score_real {n k : ℕ} (x : Fin n → EReal) (w : Fin n → Fin k → EReal) (y : Fin k → EReal) (c : EReal)
    (hx : ∀ e, Real' (x e)) (hw : ∀ e d, Real' (w e d)) (hy : ∀ d, Real' (y d)) (hc : Real' c) :
    Real' ((∑ d, (∑ e, x e * w e d) * y d) * c) := by
  choose x' hx using hx
  choose w' hw using hw
  choose y' hy using hy
  obtain ⟨c', rfl⟩ := hc
  simp only [hx, hw, hy, ← EReal.coe_mul, ← real_sum]
  exact ⟨_, rfl⟩

/-- The scale is real. -/
theorem scale_real : Real' (Ideal.ofBits .f32 0x3E000000#32) := by
  refine ⟨1 / 8, ?_⟩
  simp [Ideal.ofBits, Ideal.ieee, -EReal.coe_mul]
  norm_num

/-- The masked score is real. -/
theorem masked_real : Real' (Ideal.ofBits .f32 0xCE6E6B28#32) := by
  refine ⟨-1000000000, ?_⟩
  simp [Ideal.ofBits, Ideal.ieee, -EReal.coe_mul]
  norm_num

/-- The start of the largest is below everything. -/
theorem start_bot : Ideal.ofBits .f32 0xFF800000#32 = (⊥ : EReal) := by
  simp [Ideal.ofBits, Ideal.ieee]

/-! ## The result, over whole arrays -/

section
variable (X : Fin 16 → Fin 128 → Fin 512 → EReal) (W : Fin 512 → Fin 2048 → EReal) (K V : Fin 16 → Fin 128 → Fin 32 → Fin 64 → EReal) (O : Fin 2048 → Fin 512 → EReal)

/-- The column of head `h`'s coordinate `d`. -/
def col (h : Fin 32) (d : Fin 64) : Fin 2048 := ⟨h.val * 64 + d.val, by omega⟩

/-- The masked, scaled score of row `i` against key `j`. -/
def score (b : Fin 16) (h : Fin 32) (i j : Fin 128) : EReal :=
  if j.val / 64 ≤ i.val / 64 then (∑ d : Fin 64, (∑ e : Fin 512, X b i e * W e (col h d)) * K b j h d) * Ideal.ofBits .f32 0x3E000000#32
  else Ideal.ofBits .f32 0xCE6E6B28#32

/-- The largest score of a row. -/
def top (b : Fin 16) (h : Fin 32) (i : Fin 128) : EReal := Finset.univ.fold max (Ideal.ofBits .f32 0xFF800000#32) (score X W K b h i)

/-- The context: the shifted softmax against the values. -/
def ctx (b : Fin 16) (i : Fin 128) (h : Fin 32) (d : Fin 64) : EReal :=
  ∑ j : Fin 128, V b j h d * Ideal.div (Ideal.exp (score X W K b h i j - top X W K b h i)) (∑ l : Fin 128, Ideal.exp (score X W K b h i l - top X W K b h i))

/-- The result. -/
def out (b : Fin 16) (i : Fin 128) (n : Fin 512) : EReal := ∑ t : Fin 2048, ctx X W K V b i ⟨t.val / 64, by omega⟩ ⟨t.val % 64, by omega⟩ * O t n
end

end Cert.Maths
-- ==== Proof.RefValue.lean ====
/-
  What the reference's result holds, element by element over the extended reals.
-/
module

public import proofs.«01_k».proof.Proof.Gen.ReferenceIdeal.Run
public import proofs.«01_k».proof.Proof.Reads
public import proofs.«01_k».proof.Proof.Maths
public import Idealize.ShloMosaic.Lib.Pointwise
public import Idealize.ShloMosaic.Lib.IdealHost
public import Idealize.ShloMosaic.Lib.Tactic.CleanTypes
public import Idealize.ShloMosaic.Lib.Routing.OpsOrder
public import Idealize.ShloMosaic.PureOps.Ideal

@[expose] public section

set_option maxRecDepth 16384

noncomputable section

namespace Cert.ReferenceIdeal.Own

open Idealize.ShloMosaic Idealize.ShloMosaic.TcCoe
open Cert.ReferenceIdeal.Gen
open scoped BigOperators

/-- The block numbers of the rows. -/
def rblk : IVec S128 32 :=
  select (andi (cmpi .ne (signi (iotaInDim S128 32 0)) (broadcastInDim S128 ![] bcast_S_S128 (signi (id (constantI S_ 32 64#32))))) (cmpi .ne (Host.remsi (iotaInDim S128 32 0) (broadcastInDim S128 ![] bcast_S_S128 (id (constantI S_ 32 64#32)))) (broadcastInDim S128 ![] bcast_S_S128 (constantI S_ 32 0#32)))) (subi (Host.divsi (iotaInDim S128 32 0) (broadcastInDim S128 ![] bcast_S_S128 (id (constantI S_ 32 64#32)))) (broadcastInDim S128 ![] bcast_S_S128 (constantI S_ 32 1#32))) (Host.divsi (iotaInDim S128 32 0) (broadcastInDim S128 ![] bcast_S_S128 (id (constantI S_ 32 64#32))))

/-- The block number of a row, as its word. -/
theorem rblk_at (i : Fin 128) : rblk (ix1 i) = BitVec.ofNat 32 (i.val / 64) := by
  pointwise [rblk]
  revert i; decide +kernel

/-- Which keys a row may see. -/
def rmask : IVec S128x128 1 :=
  cmpi .sle (broadcastInDim S128x128 ![0, 1] bcast_S1x128_S128x128_0_1 (broadcastInDim S1x128 ![1] bcast_S128_S1x128_1 rblk)) (broadcastInDim S128x128 ![0, 1] bcast_S128x1_S128x128_0_1 (broadcastInDim S128x1 ![0] bcast_S128_S128x1_0 rblk))

/-- Blocks are ordered as their words are. -/
theorem blkLe (i j : Fin 128) : IntOp.cmpi .sle (BitVec.ofNat 32 (j.val / 64)) (BitVec.ofNat 32 (i.val / 64)) = if j.val / 64 ≤ i.val / 64 then 1#1 else 0#1 :=
  Cert.KernelIdeal.Own.blk_le ⟨j.val / 64, by omega⟩ ⟨i.val / 64, by omega⟩

/-- A row sees a key when the key's block is not past its own. -/
theorem rmask_at (i j : Fin 128) : rmask (ix2 i j) = if j.val / 64 ≤ i.val / 64 then 1#1 else 0#1 := by
  pointwise [rmask]
  exact (congrArg₂ (IntOp.cmpi .sle) (rblk_at j) (rblk_at i)).trans (blkLe i j)

/-- Choosing by a decided question. -/
theorem sel_if (p : Prop) [Decidable p] (u v : EReal) : Scalar.select (if p then 1#1 else 0#1) u v = if p then u else v := by
  split <;> rfl

/-- Every row sees a key: itself. -/
theorem keep (i : Fin 128) : Finset.fold IntOp.ori 0#1 (fun j : Fin 128 => if j.val / 64 ≤ i.val / 64 then 1#1 else 0#1) Finset.univ = 1#1 :=
  (Routing.fold_ori _ _).mpr ⟨i, Finset.mem_univ _, if_pos le_rfl⟩

/-- A choice whose test is true. -/
theorem sel_one (u v : EReal) : Scalar.select 1#1 u v = u := rfl

section
variable (m : (ℓ : Loc nD τ sig) → Buf (Elt Ideal) ℓ) (c : Dev nD)

/-- The input. -/
abbrev aX : FVec Ideal S16x128x512 .f32 := m ((c.tc : Thread nD τ).loc main_arg0)
/-- The query weights. -/
abbrev aW : FVec Ideal S512x2048 .f32 := m ((c.tc : Thread nD τ).loc main_arg1)
/-- The keys. -/
abbrev aK : FVec Ideal S16x128x32x64 .f32 := m ((c.tc : Thread nD τ).loc main_arg2)
/-- The values. -/
abbrev aV : FVec Ideal S16x128x32x64 .f32 := m ((c.tc : Thread nD τ).loc main_arg3)
/-- The output weights. -/
abbrev aO : FVec Ideal S2048x512 .f32 := m ((c.tc : Thread nD τ).loc main_arg4)
/-- The input, by its coordinates. -/
def gX : Fin 16 → Fin 128 → Fin 512 → EReal := fun b i e => aX m c (ix3 b i e)
/-- The query weights as a function. -/
def gW : Fin 512 → Fin 2048 → EReal := fun e t => aW m c (ix2 e t)
/-- The keys as a function. -/
def gK : Fin 16 → Fin 128 → Fin 32 → Fin 64 → EReal := fun b j h d => aK m c (ix4 b j h d)
/-- The values as a function. -/
def gV : Fin 16 → Fin 128 → Fin 32 → Fin 64 → EReal := fun b j h d => aV m c (ix4 b j h d)
/-- The output weights as a function. -/
def gO : Fin 2048 → Fin 512 → EReal := fun t n => aO m c (ix2 t n)

set_option maxHeartbeats 2000000

/-- The masked, scaled scores. -/
def rscore : FVec Ideal S16x32x128x128 .f32 :=
  select (broadcastInDim S16x32x128x128 ![0, 1, 2, 3] bcast_S1x1x128x128_S16x32x128x128_0_1_2_3 (broadcastInDim S1x1x128x128 ![2, 3] bcast_S128x128_S1x1x128x128_2_3 rmask)) (mulf (Host.dotGeneral dot_S16x128x32x64_S16x128x32x64_S16x32x128x128_3_3_1_1_02_02 none (shapeCast _ (Host.dotGeneral dot_S16x128x512_S512x2048_S16x128x2048_2_0_01_1_n_n none (aX m c) (aW m c)) shapeCasts_S16x128x2048_S16x128x32x64) (aK m c)) (broadcastInDim S16x32x128x128 ![] bcast_S_S16x32x128x128 (constant S_ .f32 0x3E000000#32))) (broadcastInDim S16x32x128x128 ![] bcast_S_S16x32x128x128 (id (constant S_ .f32 0xCE6E6B28#32)))

/-- The scores, element by element. -/
theorem rscore_at (b : Fin 16) (h : Fin 32) (i j : Fin 128) : rscore m c (ix4 b h i j) = Maths.score (gX m c) (gW m c) (gK m c) b h i j := by
  pointwise [rscore]
  simp only [rmask_at, sel_if]
  rfl

/-- The reference's result over its scores. -/
theorem ref_eq : Cert.ReferenceIdeal.Value.res_main_v33 (F := Ideal) m c =
  Host.dotGeneral dot_S16x128x2048_S2048x512_S16x128x512_2_0_01_1_n_n none (shapeCast _ (transpose S16x128x32x64 [0, 3, 1, 2] (Host.dotGeneral dot_S16x128x32x64_S16x32x128x128_S16x32x64x128_1_3_3_2_02_01 none (aV m c) (select (broadcastInDim S16x32x128x128 ![0, 1, 2, 3] bcast_S1x1x128x1_S16x32x128x128_0_1_2_3 (broadcastInDim S1x1x128x1 ![2] bcast_S128_S1x1x128x1_2 (Host.reduce IntOp.ori rmask (constantI S_ 1 0#1) reducesTo_S128x128_S128_d1 h_S_))) (Host.divf (Host.exp (subf (rscore m c) (broadcastInDim S16x32x128x128 ![0, 1, 2, 3] bcast_S16x32x128x1_S16x32x128x128_0_1_2_3 (broadcastInDim S16x32x128x1 ![0, 1, 2] bcast_S16x32x128_S16x32x128x1_0_1_2 (Host.reduce FloatOps.maximumf (rscore m c) (constant S_ .f32 0xFF800000#32) reducesTo_S16x32x128x128_S16x32x128_d3 h_S_))))) (broadcastInDim S16x32x128x128 ![0, 1, 2, 3] bcast_S16x32x128x1_S16x32x128x128_0_1_2_3 (select (broadcastInDim S16x32x128x1 ![0, 1, 2, 3] bcast_S1x1x128x1_S16x32x128x1_0_1_2_3 (broadcastInDim S1x1x128x1 ![2] bcast_S128_S1x1x128x1_2 (Host.reduce IntOp.ori rmask (constantI S_ 1 0#1) reducesTo_S128x128_S128_d1 h_S_))) (broadcastInDim S16x32x128x1 ![0, 1, 2] bcast_S16x32x128_S16x32x128x1_0_1_2 (Host.reduceAdd (Host.exp (subf (rscore m c) (broadcastInDim S16x32x128x128 ![0, 1, 2, 3] bcast_S16x32x128x1_S16x32x128x128_0_1_2_3 (broadcastInDim S16x32x128x1 ![0, 1, 2] bcast_S16x32x128_S16x32x128x1_0_1_2 (Host.reduce FloatOps.maximumf (rscore m c) (constant S_ .f32 0xFF800000#32) reducesTo_S16x32x128x128_S16x32x128_d3 h_S_))))) (constant S_ .f32 0x00000000#32) reducesTo_S16x32x128x128_S16x32x128_d3 h_S_)) (broadcastInDim S16x32x128x1 ![] bcast_S_S16x32x128x1 (id (constant S_ .f32 0x3F800000#32)))))) (broadcastInDim S16x32x128x128 ![] bcast_S_S16x32x128x128 (id (constant S_ .f32 0x00000000#32))))) transposes_S16x32x64x128_S16x128x32x64_0_3_1_2) shapeCasts_S16x128x32x64_S16x128x2048) (aO m c) := by
  unfold Cert.ReferenceIdeal.Value.res_main_v33
  rfl

/-- The reference's result, element by element. -/
theorem ref_at (b : Fin 16) (i : Fin 128) (n : Fin 512) :
    Cert.ReferenceIdeal.Value.res_main_v33 (F := Ideal) m c (ix3 b i n) = Maths.out (gX m c) (gW m c) (gK m c) (gV m c) (gO m c) b i n := by
  rw [ref_eq]
  clean_types
  pointwise
  simp only [rmask_at, rscore_at, keep, sel_one]
  rfl
end

end Cert.ReferenceIdeal.Own
-- ==== Proof.Value.lean ====
/-
  The kernel's result is the reference's, over the extended reals and finite inputs, queries' weights and keys.
-/
module

public import proofs.«01_k».proof.Proof.Blocks
public import proofs.«01_k».proof.Proof.RefValue
public import proofs.«01_k».proof.Proof.Main
public import proofs.«01_k».proof.Defs
public import Idealize.ShloMosaic.Lib.Layout

@[expose] public section

set_option maxRecDepth 16384

noncomputable section

namespace Cert.Proof

open Idealize.ShloMosaic Idealize.ShloMosaic.TcCoe Idealize.SL.Sem
open scoped BigOperators

/-- The side conditions of the precondition over one device's blocks. -/
theorem preFacts : Cert.Pre_finite_scores_KernelIdeal.Facts := ⟨by decide, by decide, by decide⟩
/-- The side conditions of the precondition over whole arrays. -/
theorem preFactsRef : Cert.Pre_finite_scores_ReferenceIdeal.Facts := ⟨by decide, by decide, by decide⟩

/-- What the precondition says of one value. -/
theorem real_of_test (x : EReal) (h : Ideal.cmp .olt (max x (-x)) (Ideal.ofBits .f32 0x7F800000#32) = 1#1) : Maths.Real' x := by
  have t : Ideal.ofBits .f32 0x7F800000#32 = (⊤ : EReal) := by simp [Ideal.ofBits, Ideal.ieee]
  rw [t] at h
  refine Maths.real_of_abs x ?_
  by_contra hn
  rw [show Ideal.cmp .olt (max x (-x)) ⊤ = BitVec.ofBool (decide (max x (-x) < ⊤)) from rfl, decide_eq_false hn] at h
  exact absurd h (by decide)

/-- Row `b` of device `c` among all rows. -/
def row (c : Fin 8) (b : Fin 2) : Fin 16 := ⟨2 * c.val + b.val, by omega⟩
/-- Column `t` of device `g` among all columns. -/
def lane (g : Fin 8) (t : Fin 256) : Fin 2048 := ⟨g.val * 256 + t.val, by omega⟩

section
variable {m : (ℓ : Loc Cert.KernelIdeal.nD Cert.KernelIdeal.τ Cert.KernelIdeal.sig) → Buf (Elt Ideal) ℓ}
  {m' : (ℓ : Loc Cert.ReferenceIdeal.nD Cert.ReferenceIdeal.τ Cert.ReferenceIdeal.sig) → Buf (Elt Ideal) ℓ}

/-- The devices' arguments are their parts of the whole arrays, by their coordinates. -/
structure Parts (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) : Prop where
  x : ∀ (c : Fin 8) (b : Fin 2) (i : Fin 128) (e : Fin 512), Cert.KernelIdeal.Own.aX m c (ix3 b i e) = Cert.ReferenceIdeal.Own.gX m' 0 (row c b) i e
  w : ∀ (c : Fin 8) (e : Fin 512) (t : Fin 256), Cert.KernelIdeal.Own.aW m c (ix2 e t) = Cert.ReferenceIdeal.Own.gW m' 0 e (lane c t)
  k : ∀ (c : Fin 8) (b : Fin 16) (j : Fin 128) (h : Fin 32) (d : Fin 64), Cert.KernelIdeal.Own.aK m c (ix4 b j h d) = Cert.ReferenceIdeal.Own.gK m' 0 b j h d
  v : ∀ (c : Fin 8) (b : Fin 16) (j : Fin 128) (h : Fin 32) (d : Fin 64), Cert.KernelIdeal.Own.aV m c (ix4 b j h d) = Cert.ReferenceIdeal.Own.gV m' 0 b j h d
  o : ∀ (c : Fin 8) (t : Fin 256) (n : Fin 512), Cert.KernelIdeal.Own.aO m c (ix2 t n) = Cert.ReferenceIdeal.Own.gO m' 0 (lane c t) n
  rx : ∀ b i e, Maths.Real' (Cert.ReferenceIdeal.Own.gX m' 0 b i e)
  rw : ∀ e t, Maths.Real' (Cert.ReferenceIdeal.Own.gW m' 0 e t)
  rk : ∀ b j h d, Maths.Real' (Cert.ReferenceIdeal.Own.gK m' 0 b j h d)

open Cert.ReferenceIdeal.Own in
/-- The reference's scores are real. -/
theorem score_real (H : Parts m m') (b : Fin 16) (h : Fin 32) (i j : Fin 128) : Maths.Real' (Maths.score (gX m' 0) (gW m' 0) (gK m' 0) b h i j) := by
  unfold Maths.score
  split
  · exact Maths.score_real _ _ _ _ (fun e => H.rx _ _ _) (fun e d => H.rw _ _) (fun d => H.rk _ _ _ _) Maths.scale_real
  · exact Maths.masked_real

/-- The slots reach every device once. -/
theorem slots_bij (c : Fin 8) : Function.Bijective fun s : Fin 8 => Cert.KernelIdeal.Own.xr c s.val := by
  revert c; decide

/-- A device's buffers hold its parts of the whole arrays. -/
structure Holds (m' : (ℓ : Loc Cert.ReferenceIdeal.nD Cert.ReferenceIdeal.τ Cert.ReferenceIdeal.sig) → Buf (Elt Ideal) ℓ) (c : Fin 8)
    (wq : Fin 8 → FVec Ideal Cert.KernelIdeal.S512x256 .bf16) (wo : Fin 8 → FVec Ideal Cert.KernelIdeal.S256x512 .bf16) (x : FVec Ideal Cert.KernelIdeal.S2x128x512 .f32)
    (kk : FVec Ideal Cert.KernelIdeal.S32x2x64x128 .f32) (vv : FVec Ideal Cert.KernelIdeal.S32x2x128x64 .f32) : Prop where
  x : ∀ b i e, x (ix3 b i e) = Cert.ReferenceIdeal.Own.gX m' 0 (row c b) i e
  w : ∀ g e t, wq g (ix2 e t) = Cert.ReferenceIdeal.Own.gW m' 0 e (lane g t) * Ideal.ofBits .f32 0x3E000000#32
  k : ∀ h b d j, kk (ix4 h b d j) = Cert.ReferenceIdeal.Own.gK m' 0 (row c b) j h d
  v : ∀ h b j d, vv (ix4 h b j d) = Cert.ReferenceIdeal.Own.gV m' 0 (row c b) j h d
  o : ∀ g t n, wo g (ix2 t n) = Cert.ReferenceIdeal.Own.gO m' 0 (lane g t) n

section
variable {c : Fin 8} {wq : Fin 8 → FVec Ideal Cert.KernelIdeal.S512x256 .bf16} {wo : Fin 8 → FVec Ideal Cert.KernelIdeal.S256x512 .bf16} {x : FVec Ideal Cert.KernelIdeal.S2x128x512 .f32}
  {kk : FVec Ideal Cert.KernelIdeal.S32x2x64x128 .f32} {vv : FVec Ideal Cert.KernelIdeal.S32x2x128x64 .f32}

open Cert.KernelIdeal.Own Cert.ReferenceIdeal.Own in
/-- A chunk's masked scores are the reference's: the scale moves off the weights. -/
theorem sc_eq (H : Parts m m') (B : Holds m' c wq wo x kk vv) (g : Fin 8) (b : Fin 2) (h : Fin 4) (i j : Fin 128) :
    sc (fun i d => ∑ e : Fin 512, x (ix3 b i e) * wq g (ix2 e (colIx h d))) (fun d j => kk (ix4 (headIx g h) b d j)) i j
      = Maths.score (gX m' 0) (gW m' 0) (gK m' 0) (row c b) (headIx g h) i j := by
  have hl : ∀ d, lane g (colIx h d) = Maths.col (headIx g h) d := fun d => Fin.ext (by
    show g.val * 256 + (64 * h.val + d.val) = (4 * g.val + h.val) * 64 + d.val; omega)
  unfold sc Maths.score
  refine if_congr Iff.rfl ?_ rfl
  simp only [B.x, B.w, B.k, hl]
  exact Maths.scale (fun e => gX m' 0 (row c b) i e) (fun e d => gW m' 0 e (Maths.col (headIx g h) d)) (fun d => gK m' 0 (row c b) j (headIx g h) d) _
    (fun e => H.rx _ _ _) (fun e d => H.rw _ _) (fun d => H.rk _ _ _ _) Maths.scale_real

open Cert.KernelIdeal.Own Cert.ReferenceIdeal.Own in
/-- A chunk's context is the reference's at the chunk's heads. -/
theorem ctx_eq (H : Parts m m') (B : Holds m' c wq wo x kk vv) (g : Fin 8) (b : Fin 2) (i : Fin 128) (h : Fin 4) (d : Fin 64) :
    ctxAt wq x kk vv b g i h d = Maths.ctx (gX m' 0) (gW m' 0) (gK m' 0) (gV m' 0) (row c b) i (headIx g h) d := by
  unfold ctxAt Maths.ctx Maths.top
  refine Finset.sum_congr rfl fun j _ => ?_
  rw [Maths.start_bot, Maths.soft _ (score_real H _ _ _), mul_comm, B.v]
  simp only [sc_eq H B]

open Cert.KernelIdeal.Own in
/-- The result's buffer by its rows. -/
theorem outVal_at (wq : Fin 8 → FVec Ideal Cert.KernelIdeal.S512x256 .bf16) (wo : Fin 8 → FVec Ideal Cert.KernelIdeal.S256x512 .bf16) (c : Fin 8) (x : FVec Ideal Cert.KernelIdeal.S2x128x512 .f32)
    (kk : FVec Ideal Cert.KernelIdeal.S32x2x64x128 .f32) (vv : FVec Ideal Cert.KernelIdeal.S32x2x128x64 .f32) (b : Fin 2) (i : Fin 128) (n : Fin 512) :
    outVal (F := Ideal) wq wo c x kk vv (ix3 b i n) = outRow (F := Ideal) wq wo c x kk vv b (ix3 0 i n) := by
  unfold outVal
  refine congrArg (outRow (F := Ideal) wq wo c x kk vv b) (funext fun a => ?_)
  match a with
  | ⟨0, _⟩ => rfl
  | ⟨1, _⟩ => rfl
  | ⟨2, _⟩ => rfl

open Cert.KernelIdeal.Own Cert.ReferenceIdeal.Own in
/-- A row of a device's result is the reference's. -/
theorem row_eq (H : Parts m m') (B : Holds m' c wq wo x kk vv) (b : Fin 2) (i : Fin 128) (n : Fin 512) :
    outRow (F := Ideal) wq wo c x kk vv b (ix3 0 i n) = Maths.out (gX m' 0) (gW m' 0) (gK m' 0) (gV m' 0) (gO m' 0) (row c b) i n := by
  refine (outRow_at wq wo c x kk vv b i n).trans ?_
  unfold Maths.out
  refine Eq.trans (Fintype.sum_bijective _ (slots_bij c) _ (fun g : Fin 8 => ∑ t : Fin 256, Maths.ctx (gX m' 0) (gW m' 0) (gK m' 0) (gV m' 0) (row c b) i
    (headIx g ⟨t.val / 64, by omega⟩) ⟨t.val % 64, by omega⟩ * gO m' 0 (lane g t) n) fun s => Finset.sum_congr rfl fun t _ => ?_) ?_
  · refine congrArg₂ (· * ·) ?_ (B.o _ t n)
    have ht : t = colIx ⟨t.val / 64, by omega⟩ ⟨t.val % 64, by omega⟩ := Fin.ext (by show t.val = 64 * (t.val / 64) + t.val % 64; omega)
    refine Eq.trans (congrArg (fun t => ctxOf (F := Ideal) wq c x kk vv b s (ix2 i t)) ht) ?_
    exact (ctxOf_at wq c x kk vv b s i _ _).trans (ctx_eq H B _ b i _ _)
  · refine Fin.sum_mul_add_congr fun g t hl => ?_
    have h1 : headIx g ⟨t.val / 64, by omega⟩ = (⟨(g.val * 256 + t.val) / 64, by omega⟩ : Fin 32) := Fin.ext (by
      show 4 * g.val + t.val / 64 = (g.val * 256 + t.val) / 64; omega)
    have h2 : (⟨t.val % 64, by omega⟩ : Fin 64) = ⟨(g.val * 256 + t.val) % 64, by omega⟩ := Fin.ext (by
      show t.val % 64 = (g.val * 256 + t.val) % 64; omega)
    rw [h1, h2]
    rfl
end

open Cert.KernelIdeal.Own in
/-- The buffers hold the device's parts. -/
theorem holds (H : Parts m m') (c : Fin 8) : Holds m' c (wqIn (F := Ideal) m) (woIn (F := Ideal) m) (xIn (F := Ideal) m c) (kIn (F := Ideal) m c) (vIn (F := Ideal) m c) :=
  ⟨fun b i e => (xIn_at m c b i e).trans (H.x c b i e), fun g e t => (wqIn_at m g e t).trans (congrArg (· * Ideal.ofBits .f32 0x3E000000#32) (H.w g e t)),
   fun h b d j => (kIn_at m c h b d j).trans (H.k c _ _ _ _), fun h b j d => (vIn_at m c h b d j).trans (H.v c _ _ _ _), fun g t n => (woIn_at m g t n).trans (H.o g t n)⟩

open Cert.KernelIdeal.Own Cert.ReferenceIdeal.Own in
/-- A device's result holds its rows of the reference's. -/
theorem out_eq (H : Parts m m') (c : Fin 8) (b : Fin 2) (i : Fin 128) (n : Fin 512) :
    outIn (F := Ideal) m c (ix3 b i n) = Maths.out (gX m' 0) (gW m' 0) (gK m' 0) (gV m' 0) (gO m' 0) (row c b) i n :=
  (outVal_at (wqIn (F := Ideal) m) (woIn (F := Ideal) m) c (xIn (F := Ideal) m c) (kIn (F := Ideal) m c) (vIn (F := Ideal) m c) b i n).trans (row_eq H (holds H c) b i n)
end

/-- The claim's hypotheses, by the coordinates. -/
theorem parts (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (pre : Cert.Pre_KernelIdeal_finite_scores_KernelIdeal (hPre_finite_scores_KernelIdeal := preFacts) m)
    (H : ∀ c : Dev Cert.KernelIdeal.nD,
      m ((c.tc : Thread Cert.KernelIdeal.nD Cert.KernelIdeal.τ).loc Cert.KernelIdeal.main_arg0) = Layout.block ⟨3, ![2, 128, 512]⟩ ⟨3, ![16, 128, 512]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 256]⟩ ⟨2, ![512, 2048]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![256, 512]⟩ ⟨2, ![2048, 512]⟩ 0 8 c (m' (((0 : Dev Cert.ReferenceIdeal.nD).tc : Thread Cert.ReferenceIdeal.nD Cert.ReferenceIdeal.τ).loc Cert.ReferenceIdeal.main_arg4))) :
    Parts m m' := by
  have x : ∀ (c : Fin 8) (b : Fin 2) (i : Fin 128) (e : Fin 512), Cert.KernelIdeal.Own.aX m c (ix3 b i e) = Cert.ReferenceIdeal.Own.gX m' 0 (row c b) i e := fun c b i e =>
    (congrFun (H c).1 (ix3 b i e)).trans (congrArg (Cert.ReferenceIdeal.Own.aX m' 0) (funext fun a => Fin.ext (match a with
      | ⟨0, _⟩ => (show c.val * 2 + b.val = 2 * c.val + b.val by omega)
      | ⟨1, _⟩ => rfl
      | ⟨2, _⟩ => rfl)))
  have w : ∀ (c : Fin 8) (e : Fin 512) (t : Fin 256), Cert.KernelIdeal.Own.aW m c (ix2 e t) = Cert.ReferenceIdeal.Own.gW m' 0 e (lane c t) := fun c e t =>
    (congrFun (H c).2.1 (ix2 e t)).trans (congrArg (Cert.ReferenceIdeal.Own.aW m' 0) (funext fun a => Fin.ext (match a with
      | ⟨0, _⟩ => rfl
      | ⟨1, _⟩ => rfl)))
  have k : ∀ (c : Fin 8) (b : Fin 16) (j : Fin 128) (h : Fin 32) (d : Fin 64), Cert.KernelIdeal.Own.aK m c (ix4 b j h d) = Cert.ReferenceIdeal.Own.gK m' 0 b j h d := fun c b j h d =>
    congrFun (H c).2.2.1 (ix4 b j h d)
  refine ⟨x, w, k, fun c b j h d => congrFun (H c).2.2.2.1 (ix4 b j h d), fun c t n =>
    (congrFun (H c).2.2.2.2 (ix2 t n)).trans (congrArg (Cert.ReferenceIdeal.Own.aO m' 0) (funext fun a => Fin.ext (match a with
      | ⟨0, _⟩ => rfl
      | ⟨1, _⟩ => rfl))), fun b i e => ?_, fun e t => ?_, fun b j h d => ?_⟩
  · have hb : row ⟨b.val / 2, by omega⟩ ⟨b.val % 2, by omega⟩ = b := Fin.ext (by show 2 * (b.val / 2) + b.val % 2 = b.val; omega)
    rw [← hb, ← x]
    exact real_of_test _ (congrFun (pre _).1 (ix3 _ i e))
  · have ht : lane ⟨t.val / 256, by omega⟩ ⟨t.val % 256, by omega⟩ = t := Fin.ext (by show t.val / 256 * 256 + t.val % 256 = t.val; omega)
    rw [← ht, ← w]
    exact real_of_test _ (congrFun (pre _).2.1 (ix2 e _))
  · rw [← k 0]
    exact real_of_test _ (congrFun (pre _).2.2 (ix4 b j h d))

/-- Over the extended reals the kernel computes what the reference does. -/
theorem algebraic : Cert.algebraic_KernelIdeal_ReferenceIdeal_pre_finite_scores_KernelIdeal (hKernelIdeal := Cert.KernelIdeal.Gen.facts)
    (hReferenceIdeal := Cert.ReferenceIdeal.Gen.facts) (hPre_finite_scores_KernelIdeal := preFacts) := fun m g m' g' pre H => by
  have P := parts m m' pre H
  refine ⟨Cert.ReferenceIdeal.Value.res_main_v33 (F := Ideal) m' 0,
    (θ_run Cert.KernelIdeal.defs _ _).mono (fun r h c => ⟨(h.1 c).1.trans (funext fun y => ?_), (h.1 c).2⟩) (Cert.KernelIdeal.Own.run_main (F := Ideal) m g),
    (θ_run Cert.ReferenceIdeal.defs _ _).mono (fun r h => h 0) (Cert.ReferenceIdeal.Value.run (F := Ideal) m' g')⟩
  obtain ⟨b, i, n, rfl⟩ : ∃ (b : Fin 2) (i : Fin 128) (n : Fin 512), y = ix3 b i n := ⟨y 0, y 1, y 2, funext fun a => match a with
    | ⟨0, _⟩ => rfl
    | ⟨1, _⟩ => rfl
    | ⟨2, _⟩ => rfl⟩
  refine (out_eq P c b i n).trans ((Cert.ReferenceIdeal.Own.ref_at m' 0 (row c b) i n).symm.trans ?_)
  refine congrArg (Cert.ReferenceIdeal.Value.res_main_v33 (F := Ideal) m' 0) (funext fun a => Fin.ext (match a with
    | ⟨0, _⟩ => (show 2 * c.val + b.val = c.val * 2 + b.val by omega)
    | ⟨1, _⟩ => rfl
    | ⟨2, _⟩ => rfl))

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

/-- All the claims. -/
theorem claim : Cert.Claim := ⟨Cert.Kernel.Gen.facts, Cert.KernelIdeal.Gen.facts, Cert.ReferenceIdeal.Gen.facts,
  preFacts, preFactsRef, frame_kernel, frame_ideal, fun m g _ => frame_ideal m g trivial, frame_reference,
  fun m g _ => frame_reference m g trivial, trivial, algebraic⟩

end Cert.Proof

end
